-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 512]⟩ ⟨2, ![8192, 8192]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 4096]⟩ ⟨2, ![8192, 4096]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 4096]⟩ ⟨2, ![8192, 4096]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x512 : Shape := ⟨2, ![8192, 512]⟩
abbrev S512x4096 : Shape := ⟨2, ![512, 4096]⟩
abbrev S2x3x512x512 : Shape := ⟨4, ![2, 3, 512, 512]⟩
abbrev S4x2x512x1024 : Shape := ⟨4, ![4, 2, 512, 1024]⟩
abbrev S2x3 : Shape := ⟨2, ![2, 3]⟩
abbrev S4x2 : Shape := ⟨2, ![4, 2]⟩
abbrev S4 : Shape := ⟨1, ![4]⟩
abbrev S_ : Shape := ⟨0, ![]⟩
abbrev S1x1 : Shape := ⟨2, ![1, 1]⟩
abbrev S1x1x512x512 : Shape := ⟨4, ![1, 1, 512, 512]⟩
abbrev S512x512 : Shape := ⟨2, ![512, 512]⟩
abbrev S512x1024 : Shape := ⟨2, ![512, 1024]⟩
abbrev S1x1x512x1024 : Shape := ⟨4, ![1, 1, 512, 1024]⟩
abbrev S1 : Shape := ⟨1, ![1]⟩

abbrev nBuf : Space → Nat
  | .hbm => 3
  | .vmem => 4
  | .smem => 0
  | _ => 0

abbrev bufTy : (tb : Table) → Fin (tcTables nBuf tb) → BufTy
  | .hbm, ⟨0, _⟩ => ⟨S8192x512, .f32⟩
  | .hbm, ⟨1, _⟩ => ⟨S512x4096, .f32⟩
  | .hbm, ⟨2, _⟩ => ⟨S512x4096, .f32⟩
  | .local _ .vmem, ⟨0, _⟩ => ⟨S512x4096, .f32⟩
  | .local _ .vmem, ⟨1, _⟩ => ⟨S2x3x512x512, .f32⟩
  | .local _ .vmem, ⟨2, _⟩ => ⟨S4x2x512x1024, .f32⟩
  | .local _ .vmem, ⟨3, _⟩ => ⟨S4x2x512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 5 23 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 4

abbrev nD : Nat := 16
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_mult1 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_19 : BitVec 32 := 0#32
  let v30 : BitVec 32 := Scalar.subi v2 c0_i32_19
  let c1_i32_20 : BitVec 32 := 1#32
  let v31 : BitVec 32 := Scalar.subi v30 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c512_i32 : BitVec 32 := 512#32
  let v42 : BitVec 32 := Scalar.muli v41 c512_i32
  v42
def k0_off1 (d0 : Dev nD) (c0_i32_19 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v30 : BitVec 32 := Scalar.subi v2 c0_i32_19
  let c1_i32_20 : BitVec 32 := 1#32
  let v31 : BitVec 32 := Scalar.subi v30 c1_i32_20
  let c16_i32_21 : BitVec 32 := 16#32
  let c0_i32_22 : BitVec 32 := 0#32
  let v32 : BitVec 1 := Scalar.cmpi .eq c16_i32_21 c0_i32_22
  let c1_i32_23 : BitVec 32 := 1#32
  let v33 : BitVec 32 := Scalar.select v32 c1_i32_23 c16_i32_21
  let v34 : BitVec 32 := Scalar.remsi v31 v33
  let c0_i32_25 : BitVec 32 := 0#32
  let v36 : BitVec 1 := Scalar.cmpi .slt v34 c0_i32_25
  let c0_i32_26 : BitVec 32 := 0#32
  let v37 : BitVec 1 := Scalar.cmpi .slt v33 c0_i32_26
  let v38 : BitVec 1 := Scalar.xori v36 v37
  let c0_i32_24 : BitVec 32 := 0#32
  let v35 : BitVec 1 := Scalar.cmpi .ne v34 c0_i32_24
  let v39 : BitVec 1 := Scalar.andi v38 v35
  let v40 : BitVec 32 := Scalar.addi v34 v33
  let v41 : BitVec 32 := Scalar.select v39 v40 v34
  let c512_i32 : BitVec 32 := 512#32
  let v42 : BitVec 32 := Scalar.muli v41 c512_i32
  let v43 : BitVec 32 := v42
  let c0_i32_33 : BitVec 32 := 0#32
  ![v43.toNat, 0]
def k0_mult2 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_34 : BitVec 32 := 0#32
  let v49 : BitVec 32 := Scalar.addi v2 c0_i32_34
  let c1_i32_35 : BitVec 32 := 1#32
  let v50 : BitVec 32 := Scalar.addi v49 c1_i32_35
  let c16_i32_36 : BitVec 32 := 16#32
  let c0_i32_37 : BitVec 32 := 0#32
  let v51 : BitVec 1 := Scalar.cmpi .eq c16_i32_36 c0_i32_37
  let c1_i32_38 : BitVec 32 := 1#32
  let v52 : BitVec 32 := Scalar.select v51 c1_i32_38 c16_i32_36
  let v53 : BitVec 32 := Scalar.remsi v50 v52
  let c0_i32_40 : BitVec 32 := 0#32
  let v55 : BitVec 1 := Scalar.cmpi .slt v53 c0_i32_40
  let c0_i32_41 : BitVec 32 := 0#32
  let v56 : BitVec 1 := Scalar.cmpi .slt v52 c0_i32_41
  let v57 : BitVec 1 := Scalar.xori v55 v56
  let c0_i32_39 : BitVec 32 := 0#32
  let v54 : BitVec 1 := Scalar.cmpi .ne v53 c0_i32_39
  let v58 : BitVec 1 := Scalar.andi v57 v54
  let v59 : BitVec 32 := Scalar.addi v53 v52
  let v60 : BitVec 32 := Scalar.select v58 v59 v53
  let c512_i32_42 : BitVec 32 := 512#32
  let v61 : BitVec 32 := Scalar.muli v60 c512_i32_42
  v61
def k0_off2 (d0 : Dev nD) (c0_i32_34 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v49 : BitVec 32 := Scalar.addi v2 c0_i32_34
  let c1_i32_35 : BitVec 32 := 1#32
  let v50 : BitVec 32 := Scalar.addi v49 c1_i32_35
  let c16_i32_36 : BitVec 32 := 16#32
  let c0_i32_37 : BitVec 32 := 0#32
  let v51 : BitVec 1 := Scalar.cmpi .eq c16_i32_36 c0_i32_37
  let c1_i32_38 : BitVec 32 := 1#32
  let v52 : BitVec 32 := Scalar.select v51 c1_i32_38 c16_i32_36
  let v53 : BitVec 32 := Scalar.remsi v50 v52
  let c0_i32_40 : BitVec 32 := 0#32
  let v55 : BitVec 1 := Scalar.cmpi .slt v53 c0_i32_40
  let c0_i32_41 : BitVec 32 := 0#32
  let v56 : BitVec 1 := Scalar.cmpi .slt v52 c0_i32_41
  let v57 : BitVec 1 := Scalar.xori v55 v56
  let c0_i32_39 : BitVec 32 := 0#32
  let v54 : BitVec 1 := Scalar.cmpi .ne v53 c0_i32_39
  let v58 : BitVec 1 := Scalar.andi v57 v54
  let v59 : BitVec 32 := Scalar.addi v53 v52
  let v60 : BitVec 32 := Scalar.select v58 v59 v53
  let c512_i32_42 : BitVec 32 := 512#32
  let v61 : BitVec 32 := Scalar.muli v60 c512_i32_42
  let v62 : BitVec 32 := v61
  let c0_i32_49 : BitVec 32 := 0#32
  ![v62.toNat, 0]
def k0_mult3 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_50 : BitVec 32 := 1#32
  let v68 : BitVec 32 := Scalar.subi v2 c1_i32_50
  let c1_i32_51 : BitVec 32 := 1#32
  let v69 : BitVec 32 := Scalar.subi v68 c1_i32_51
  let c16_i32_52 : BitVec 32 := 16#32
  let c0_i32_53 : BitVec 32 := 0#32
  let v70 : BitVec 1 := Scalar.cmpi .eq c16_i32_52 c0_i32_53
  let c1_i32_54 : BitVec 32 := 1#32
  let v71 : BitVec 32 := Scalar.select v70 c1_i32_54 c16_i32_52
  let v72 : BitVec 32 := Scalar.remsi v69 v71
  let c0_i32_56 : BitVec 32 := 0#32
  let v74 : BitVec 1 := Scalar.cmpi .slt v72 c0_i32_56
  let c0_i32_57 : BitVec 32 := 0#32
  let v75 : BitVec 1 := Scalar.cmpi .slt v71 c0_i32_57
  let v76 : BitVec 1 := Scalar.xori v74 v75
  let c0_i32_55 : BitVec 32 := 0#32
  let v73 : BitVec 1 := Scalar.cmpi .ne v72 c0_i32_55
  let v77 : BitVec 1 := Scalar.andi v76 v73
  let v78 : BitVec 32 := Scalar.addi v72 v71
  let v79 : BitVec 32 := Scalar.select v77 v78 v72
  let c512_i32_58 : BitVec 32 := 512#32
  let v80 : BitVec 32 := Scalar.muli v79 c512_i32_58
  v80
def k0_mult4 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v87 : BitVec 32 := Scalar.addi v2 c1_i32_66
  let c1_i32_67 : BitVec 32 := 1#32
  let v88 : BitVec 32 := Scalar.addi v87 c1_i32_67
  let c16_i32_68 : BitVec 32 := 16#32
  let c0_i32_69 : BitVec 32 := 0#32
  let v89 : BitVec 1 := Scalar.cmpi .eq c16_i32_68 c0_i32_69
  let c1_i32_70 : BitVec 32 := 1#32
  let v90 : BitVec 32 := Scalar.select v89 c1_i32_70 c16_i32_68
  let v91 : BitVec 32 := Scalar.remsi v88 v90
  let c0_i32_72 : BitVec 32 := 0#32
  let v93 : BitVec 1 := Scalar.cmpi .slt v91 c0_i32_72
  let c0_i32_73 : BitVec 32 := 0#32
  let v94 : BitVec 1 := Scalar.cmpi .slt v90 c0_i32_73
  let v95 : BitVec 1 := Scalar.xori v93 v94
  let c0_i32_71 : BitVec 32 := 0#32
  let v92 : BitVec 1 := Scalar.cmpi .ne v91 c0_i32_71
  let v96 : BitVec 1 := Scalar.andi v95 v92
  let v97 : BitVec 32 := Scalar.addi v91 v90
  let v98 : BitVec 32 := Scalar.select v96 v97 v91
  let c512_i32_74 : BitVec 32 := 512#32
  let v99 : BitVec 32 := Scalar.muli v98 c512_i32_74
  v99
def k0_mult5 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_82 : BitVec 32 := 2#32
  let v106 : BitVec 32 := Scalar.subi v2 c2_i32_82
  let c1_i32_83 : BitVec 32 := 1#32
  let v107 : BitVec 32 := Scalar.subi v106 c1_i32_83
  let c16_i32_84 : BitVec 32 := 16#32
  let c0_i32_85 : BitVec 32 := 0#32
  let v108 : BitVec 1 := Scalar.cmpi .eq c16_i32_84 c0_i32_85
  let c1_i32_86 : BitVec 32 := 1#32
  let v109 : BitVec 32 := Scalar.select v108 c1_i32_86 c16_i32_84
  let v110 : BitVec 32 := Scalar.remsi v107 v109
  let c0_i32_88 : BitVec 32 := 0#32
  let v112 : BitVec 1 := Scalar.cmpi .slt v110 c0_i32_88
  let c0_i32_89 : BitVec 32 := 0#32
  let v113 : BitVec 1 := Scalar.cmpi .slt v109 c0_i32_89
  let v114 : BitVec 1 := Scalar.xori v112 v113
  let c0_i32_87 : BitVec 32 := 0#32
  let v111 : BitVec 1 := Scalar.cmpi .ne v110 c0_i32_87
  let v115 : BitVec 1 := Scalar.andi v114 v111
  let v116 : BitVec 32 := Scalar.addi v110 v109
  let v117 : BitVec 32 := Scalar.select v115 v116 v110
  let c512_i32_90 : BitVec 32 := 512#32
  let v118 : BitVec 32 := Scalar.muli v117 c512_i32_90
  v118
def k0_mult6 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_98 : BitVec 32 := 2#32
  let v125 : BitVec 32 := Scalar.addi v2 c2_i32_98
  let c1_i32_99 : BitVec 32 := 1#32
  let v126 : BitVec 32 := Scalar.addi v125 c1_i32_99
  let c16_i32_100 : BitVec 32 := 16#32
  let c0_i32_101 : BitVec 32 := 0#32
  let v127 : BitVec 1 := Scalar.cmpi .eq c16_i32_100 c0_i32_101
  let c1_i32_102 : BitVec 32 := 1#32
  let v128 : BitVec 32 := Scalar.select v127 c1_i32_102 c16_i32_100
  let v129 : BitVec 32 := Scalar.remsi v126 v128
  let c0_i32_104 : BitVec 32 := 0#32
  let v131 : BitVec 1 := Scalar.cmpi .slt v129 c0_i32_104
  let c0_i32_105 : BitVec 32 := 0#32
  let v132 : BitVec 1 := Scalar.cmpi .slt v128 c0_i32_105
  let v133 : BitVec 1 := Scalar.xori v131 v132
  let c0_i32_103 : BitVec 32 := 0#32
  let v130 : BitVec 1 := Scalar.cmpi .ne v129 c0_i32_103
  let v134 : BitVec 1 := Scalar.andi v133 v130
  let v135 : BitVec 32 := Scalar.addi v129 v128
  let v136 : BitVec 32 := Scalar.select v134 v135 v129
  let c512_i32_106 : BitVec 32 := 512#32
  let v137 : BitVec 32 := Scalar.muli v136 c512_i32_106
  v137
def k0_dev3 (d0 : Dev nD) : Nat :=
  let c0_i32_146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_145 : BitVec 32 := 1#32
  let v162 : BitVec 32 := Scalar.muli v24 c1_i32_145
  let v163 : BitVec 32 := Scalar.addi c0_i32_146 v162
  v163.toNat
def k0_dev4 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_167 : BitVec 32 := 1#32
  let v180 : BitVec 32 := Scalar.muli v13 c1_i32_167
  let v181 : BitVec 32 := Scalar.addi c0_i32_168 v180
  v181.toNat
def k0_dev5 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_191 : BitVec 32 := 1#32
  let v198 : BitVec 32 := Scalar.muli v24 c1_i32_191
  let v199 : BitVec 32 := Scalar.addi c0_i32_192 v198
  v199.toNat
def k0_dev6 (d0 : Dev nD) : Nat :=
  let c0_i32_214 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_213 : BitVec 32 := 1#32
  let v216 : BitVec 32 := Scalar.muli v13 c1_i32_213
  let v217 : BitVec 32 := Scalar.addi c0_i32_214 v216
  v217.toNat
def k0_mult7 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_219 : BitVec 32 := 3#32
  let v226 : BitVec 32 := Scalar.subi v2 c3_i32_219
  let c1_i32_220 : BitVec 32 := 1#32
  let v227 : BitVec 32 := Scalar.subi v226 c1_i32_220
  let c16_i32_221 : BitVec 32 := 16#32
  let c0_i32_222 : BitVec 32 := 0#32
  let v228 : BitVec 1 := Scalar.cmpi .eq c16_i32_221 c0_i32_222
  let c1_i32_223 : BitVec 32 := 1#32
  let v229 : BitVec 32 := Scalar.select v228 c1_i32_223 c16_i32_221
  let v230 : BitVec 32 := Scalar.remsi v227 v229
  let c0_i32_225 : BitVec 32 := 0#32
  let v232 : BitVec 1 := Scalar.cmpi .slt v230 c0_i32_225
  let c0_i32_226 : BitVec 32 := 0#32
  let v233 : BitVec 1 := Scalar.cmpi .slt v229 c0_i32_226
  let v234 : BitVec 1 := Scalar.xori v232 v233
  let c0_i32_224 : BitVec 32 := 0#32
  let v231 : BitVec 1 := Scalar.cmpi .ne v230 c0_i32_224
  let v235 : BitVec 1 := Scalar.andi v234 v231
  let v236 : BitVec 32 := Scalar.addi v230 v229
  let v237 : BitVec 32 := Scalar.select v235 v236 v230
  let c512_i32_227 : BitVec 32 := 512#32
  let v238 : BitVec 32 := Scalar.muli v237 c512_i32_227
  v238
def k0_mult8 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_235 : BitVec 32 := 3#32
  let v245 : BitVec 32 := Scalar.addi v2 c3_i32_235
  let c1_i32_236 : BitVec 32 := 1#32
  let v246 : BitVec 32 := Scalar.addi v245 c1_i32_236
  let c16_i32_237 : BitVec 32 := 16#32
  let c0_i32_238 : BitVec 32 := 0#32
  let v247 : BitVec 1 := Scalar.cmpi .eq c16_i32_237 c0_i32_238
  let c1_i32_239 : BitVec 32 := 1#32
  let v248 : BitVec 32 := Scalar.select v247 c1_i32_239 c16_i32_237
  let v249 : BitVec 32 := Scalar.remsi v246 v248
  let c0_i32_241 : BitVec 32 := 0#32
  let v251 : BitVec 1 := Scalar.cmpi .slt v249 c0_i32_241
  let c0_i32_242 : BitVec 32 := 0#32
  let v252 : BitVec 1 := Scalar.cmpi .slt v248 c0_i32_242
  let v253 : BitVec 1 := Scalar.xori v251 v252
  let c0_i32_240 : BitVec 32 := 0#32
  let v250 : BitVec 1 := Scalar.cmpi .ne v249 c0_i32_240
  let v254 : BitVec 1 := Scalar.andi v253 v250
  let v255 : BitVec 32 := Scalar.addi v249 v248
  let v256 : BitVec 32 := Scalar.select v254 v255 v249
  let c512_i32_243 : BitVec 32 := 512#32
  let v257 : BitVec 32 := Scalar.muli v256 c512_i32_243
  v257
def k0_dev7 (d0 : Dev nD) : Nat :=
  let c0_i32_297 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_296 : BitVec 32 := 1#32
  let v295 : BitVec 32 := Scalar.muli v13 c1_i32_296
  let v296 : BitVec 32 := Scalar.addi c0_i32_297 v295
  v296.toNat
def k0_dev8 (d0 : Dev nD) : Nat :=
  let c0_i32_307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_306 : BitVec 32 := 1#32
  let v297 : BitVec 32 := Scalar.muli v24 c1_i32_306
  let v298 : BitVec 32 := Scalar.addi c0_i32_307 v297
  v298.toNat
def k0_dev9 (d0 : Dev nD) : Nat :=
  let c0_i32_344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_343 : BitVec 32 := 1#32
  let v328 : BitVec 32 := Scalar.muli v24 c1_i32_343
  let v329 : BitVec 32 := Scalar.addi c0_i32_344 v328
  v329.toNat
def k0_dev10 (d0 : Dev nD) : Nat :=
  let c0_i32_354 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_353 : BitVec 32 := 1#32
  let v330 : BitVec 32 := Scalar.muli v13 c1_i32_353
  let v331 : BitVec 32 := Scalar.addi c0_i32_354 v330
  v331.toNat
def k0_dev11 (d0 : Dev nD) : Nat :=
  let c0_i32_391 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_390 : BitVec 32 := 1#32
  let v361 : BitVec 32 := Scalar.muli v13 c1_i32_390
  let v362 : BitVec 32 := Scalar.addi c0_i32_391 v361
  v362.toNat
def k0_dev12 (d0 : Dev nD) : Nat :=
  let c0_i32_401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_400 : BitVec 32 := 1#32
  let v363 : BitVec 32 := Scalar.muli v24 c1_i32_400
  let v364 : BitVec 32 := Scalar.addi c0_i32_401 v363
  v364.toNat
def k0_dev13 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_437 : BitVec 32 := 1#32
  let v394 : BitVec 32 := Scalar.muli v24 c1_i32_437
  let v395 : BitVec 32 := Scalar.addi c0_i32_438 v394
  v395.toNat
def k0_dev14 (d0 : Dev nD) : Nat :=
  let c0_i32_448 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_447 : BitVec 32 := 1#32
  let v396 : BitVec 32 := Scalar.muli v13 c1_i32_447
  let v397 : BitVec 32 := Scalar.addi c0_i32_448 v396
  v397.toNat
def k0_mult9 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v406 : BitVec 32 := Scalar.subi v2 c4_i32
  let c1_i32_453 : BitVec 32 := 1#32
  let v407 : BitVec 32 := Scalar.subi v406 c1_i32_453
  let c16_i32_454 : BitVec 32 := 16#32
  let c0_i32_455 : BitVec 32 := 0#32
  let v408 : BitVec 1 := Scalar.cmpi .eq c16_i32_454 c0_i32_455
  let c1_i32_456 : BitVec 32 := 1#32
  let v409 : BitVec 32 := Scalar.select v408 c1_i32_456 c16_i32_454
  let v410 : BitVec 32 := Scalar.remsi v407 v409
  let c0_i32_458 : BitVec 32 := 0#32
  let v412 : BitVec 1 := Scalar.cmpi .slt v410 c0_i32_458
  let c0_i32_459 : BitVec 32 := 0#32
  let v413 : BitVec 1 := Scalar.cmpi .slt v409 c0_i32_459
  let v414 : BitVec 1 := Scalar.xori v412 v413
  let c0_i32_457 : BitVec 32 := 0#32
  let v411 : BitVec 1 := Scalar.cmpi .ne v410 c0_i32_457
  let v415 : BitVec 1 := Scalar.andi v414 v411
  let v416 : BitVec 32 := Scalar.addi v410 v409
  let v417 : BitVec 32 := Scalar.select v415 v416 v410
  let c512_i32_460 : BitVec 32 := 512#32
  let v418 : BitVec 32 := Scalar.muli v417 c512_i32_460
  v418
def k0_mult10 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_468 : BitVec 32 := 4#32
  let v425 : BitVec 32 := Scalar.addi v2 c4_i32_468
  let c1_i32_469 : BitVec 32 := 1#32
  let v426 : BitVec 32 := Scalar.addi v425 c1_i32_469
  let c16_i32_470 : BitVec 32 := 16#32
  let c0_i32_471 : BitVec 32 := 0#32
  let v427 : BitVec 1 := Scalar.cmpi .eq c16_i32_470 c0_i32_471
  let c1_i32_472 : BitVec 32 := 1#32
  let v428 : BitVec 32 := Scalar.select v427 c1_i32_472 c16_i32_470
  let v429 : BitVec 32 := Scalar.remsi v426 v428
  let c0_i32_474 : BitVec 32 := 0#32
  let v431 : BitVec 1 := Scalar.cmpi .slt v429 c0_i32_474
  let c0_i32_475 : BitVec 32 := 0#32
  let v432 : BitVec 1 := Scalar.cmpi .slt v428 c0_i32_475
  let v433 : BitVec 1 := Scalar.xori v431 v432
  let c0_i32_473 : BitVec 32 := 0#32
  let v430 : BitVec 1 := Scalar.cmpi .ne v429 c0_i32_473
  let v434 : BitVec 1 := Scalar.andi v433 v430
  let v435 : BitVec 32 := Scalar.addi v429 v428
  let v436 : BitVec 32 := Scalar.select v434 v435 v429
  let c512_i32_476 : BitVec 32 := 512#32
  let v437 : BitVec 32 := Scalar.muli v436 c512_i32_476
  v437
def k0_dev15 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_542 : BitVec 32 := 1#32
  let v481 : BitVec 32 := Scalar.muli v13 c1_i32_542
  let v482 : BitVec 32 := Scalar.addi c0_i32_543 v481
  v482.toNat
def k0_dev16 (d0 : Dev nD) : Nat :=
  let c0_i32_556 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_555 : BitVec 32 := 1#32
  let v485 : BitVec 32 := Scalar.muli v24 c1_i32_555
  let v486 : BitVec 32 := Scalar.addi c0_i32_556 v485
  v486.toNat
def k0_dev17 (d0 : Dev nD) : Nat :=
  let c0_i32_606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_605 : BitVec 32 := 1#32
  let v522 : BitVec 32 := Scalar.muli v24 c1_i32_605
  let v523 : BitVec 32 := Scalar.addi c0_i32_606 v522
  v523.toNat
def k0_dev18 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_618 : BitVec 32 := 1#32
  let v526 : BitVec 32 := Scalar.muli v13 c1_i32_618
  let v527 : BitVec 32 := Scalar.addi c0_i32_619 v526
  v527.toNat
def k0_dev19 (d0 : Dev nD) : Nat :=
  let c0_i32_669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_668 : BitVec 32 := 1#32
  let v563 : BitVec 32 := Scalar.muli v13 c1_i32_668
  let v564 : BitVec 32 := Scalar.addi c0_i32_669 v563
  v564.toNat
def k0_dev20 (d0 : Dev nD) : Nat :=
  let c0_i32_682 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_681 : BitVec 32 := 1#32
  let v567 : BitVec 32 := Scalar.muli v24 c1_i32_681
  let v568 : BitVec 32 := Scalar.addi c0_i32_682 v567
  v568.toNat
def k0_dev21 (d0 : Dev nD) : Nat :=
  let c0_i32_732 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_731 : BitVec 32 := 1#32
  let v604 : BitVec 32 := Scalar.muli v24 c1_i32_731
  let v605 : BitVec 32 := Scalar.addi c0_i32_732 v604
  v605.toNat
def k0_dev22 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_744 : BitVec 32 := 1#32
  let v608 : BitVec 32 := Scalar.muli v13 c1_i32_744
  let v609 : BitVec 32 := Scalar.addi c0_i32_745 v608
  v609.toNat
def k0_mult11 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v618 : BitVec 32 := Scalar.subi v2 c5_i32
  let c1_i32_750 : BitVec 32 := 1#32
  let v619 : BitVec 32 := Scalar.subi v618 c1_i32_750
  let c16_i32_751 : BitVec 32 := 16#32
  let c0_i32_752 : BitVec 32 := 0#32
  let v620 : BitVec 1 := Scalar.cmpi .eq c16_i32_751 c0_i32_752
  let c1_i32_753 : BitVec 32 := 1#32
  let v621 : BitVec 32 := Scalar.select v620 c1_i32_753 c16_i32_751
  let v622 : BitVec 32 := Scalar.remsi v619 v621
  let c0_i32_755 : BitVec 32 := 0#32
  let v624 : BitVec 1 := Scalar.cmpi .slt v622 c0_i32_755
  let c0_i32_756 : BitVec 32 := 0#32
  let v625 : BitVec 1 := Scalar.cmpi .slt v621 c0_i32_756
  let v626 : BitVec 1 := Scalar.xori v624 v625
  let c0_i32_754 : BitVec 32 := 0#32
  let v623 : BitVec 1 := Scalar.cmpi .ne v622 c0_i32_754
  let v627 : BitVec 1 := Scalar.andi v626 v623
  let v628 : BitVec 32 := Scalar.addi v622 v621
  let v629 : BitVec 32 := Scalar.select v627 v628 v622
  let c512_i32_757 : BitVec 32 := 512#32
  let v630 : BitVec 32 := Scalar.muli v629 c512_i32_757
  v630
def k0_mult12 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_765 : BitVec 32 := 5#32
  let v637 : BitVec 32 := Scalar.addi v2 c5_i32_765
  let c1_i32_766 : BitVec 32 := 1#32
  let v638 : BitVec 32 := Scalar.addi v637 c1_i32_766
  let c16_i32_767 : BitVec 32 := 16#32
  let c0_i32_768 : BitVec 32 := 0#32
  let v639 : BitVec 1 := Scalar.cmpi .eq c16_i32_767 c0_i32_768
  let c1_i32_769 : BitVec 32 := 1#32
  let v640 : BitVec 32 := Scalar.select v639 c1_i32_769 c16_i32_767
  let v641 : BitVec 32 := Scalar.remsi v638 v640
  let c0_i32_771 : BitVec 32 := 0#32
  let v643 : BitVec 1 := Scalar.cmpi .slt v641 c0_i32_771
  let c0_i32_772 : BitVec 32 := 0#32
  let v644 : BitVec 1 := Scalar.cmpi .slt v640 c0_i32_772
  let v645 : BitVec 1 := Scalar.xori v643 v644
  let c0_i32_770 : BitVec 32 := 0#32
  let v642 : BitVec 1 := Scalar.cmpi .ne v641 c0_i32_770
  let v646 : BitVec 1 := Scalar.andi v645 v642
  let v647 : BitVec 32 := Scalar.addi v641 v640
  let v648 : BitVec 32 := Scalar.select v646 v647 v641
  let c512_i32_773 : BitVec 32 := 512#32
  let v649 : BitVec 32 := Scalar.muli v648 c512_i32_773
  v649
def k0_dev23 (d0 : Dev nD) : Nat :=
  let c0_i32_840 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_839 : BitVec 32 := 1#32
  let v693 : BitVec 32 := Scalar.muli v13 c1_i32_839
  let v694 : BitVec 32 := Scalar.addi c0_i32_840 v693
  v694.toNat
def k0_dev24 (d0 : Dev nD) : Nat :=
  let c0_i32_853 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_852 : BitVec 32 := 1#32
  let v697 : BitVec 32 := Scalar.muli v24 c1_i32_852
  let v698 : BitVec 32 := Scalar.addi c0_i32_853 v697
  v698.toNat
def k0_dev25 (d0 : Dev nD) : Nat :=
  let c0_i32_903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_902 : BitVec 32 := 1#32
  let v734 : BitVec 32 := Scalar.muli v24 c1_i32_902
  let v735 : BitVec 32 := Scalar.addi c0_i32_903 v734
  v735.toNat
def k0_dev26 (d0 : Dev nD) : Nat :=
  let c0_i32_916 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_915 : BitVec 32 := 1#32
  let v738 : BitVec 32 := Scalar.muli v13 c1_i32_915
  let v739 : BitVec 32 := Scalar.addi c0_i32_916 v738
  v739.toNat
def k0_dev27 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_965 : BitVec 32 := 1#32
  let v775 : BitVec 32 := Scalar.muli v13 c1_i32_965
  let v776 : BitVec 32 := Scalar.addi c0_i32_966 v775
  v776.toNat
def k0_dev28 (d0 : Dev nD) : Nat :=
  let c0_i32_979 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_978 : BitVec 32 := 1#32
  let v779 : BitVec 32 := Scalar.muli v24 c1_i32_978
  let v780 : BitVec 32 := Scalar.addi c0_i32_979 v779
  v780.toNat
def k0_dev29 (d0 : Dev nD) : Nat :=
  let c0_i32_1029 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1028 : BitVec 32 := 1#32
  let v816 : BitVec 32 := Scalar.muli v24 c1_i32_1028
  let v817 : BitVec 32 := Scalar.addi c0_i32_1029 v816
  v817.toNat
def k0_dev30 (d0 : Dev nD) : Nat :=
  let c0_i32_1042 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1041 : BitVec 32 := 1#32
  let v820 : BitVec 32 := Scalar.muli v13 c1_i32_1041
  let v821 : BitVec 32 := Scalar.addi c0_i32_1042 v820
  v821.toNat
def k0_mult13 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v830 : BitVec 32 := Scalar.subi v2 c6_i32
  let c1_i32_1047 : BitVec 32 := 1#32
  let v831 : BitVec 32 := Scalar.subi v830 c1_i32_1047
  let c16_i32_1048 : BitVec 32 := 16#32
  let c0_i32_1049 : BitVec 32 := 0#32
  let v832 : BitVec 1 := Scalar.cmpi .eq c16_i32_1048 c0_i32_1049
  let c1_i32_1050 : BitVec 32 := 1#32
  let v833 : BitVec 32 := Scalar.select v832 c1_i32_1050 c16_i32_1048
  let v834 : BitVec 32 := Scalar.remsi v831 v833
  let c0_i32_1052 : BitVec 32 := 0#32
  let v836 : BitVec 1 := Scalar.cmpi .slt v834 c0_i32_1052
  let c0_i32_1053 : BitVec 32 := 0#32
  let v837 : BitVec 1 := Scalar.cmpi .slt v833 c0_i32_1053
  let v838 : BitVec 1 := Scalar.xori v836 v837
  let c0_i32_1051 : BitVec 32 := 0#32
  let v835 : BitVec 1 := Scalar.cmpi .ne v834 c0_i32_1051
  let v839 : BitVec 1 := Scalar.andi v838 v835
  let v840 : BitVec 32 := Scalar.addi v834 v833
  let v841 : BitVec 32 := Scalar.select v839 v840 v834
  let c512_i32_1054 : BitVec 32 := 512#32
  let v842 : BitVec 32 := Scalar.muli v841 c512_i32_1054
  v842
def k0_mult14 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1062 : BitVec 32 := 6#32
  let v849 : BitVec 32 := Scalar.addi v2 c6_i32_1062
  let c1_i32_1063 : BitVec 32 := 1#32
  let v850 : BitVec 32 := Scalar.addi v849 c1_i32_1063
  let c16_i32_1064 : BitVec 32 := 16#32
  let c0_i32_1065 : BitVec 32 := 0#32
  let v851 : BitVec 1 := Scalar.cmpi .eq c16_i32_1064 c0_i32_1065
  let c1_i32_1066 : BitVec 32 := 1#32
  let v852 : BitVec 32 := Scalar.select v851 c1_i32_1066 c16_i32_1064
  let v853 : BitVec 32 := Scalar.remsi v850 v852
  let c0_i32_1068 : BitVec 32 := 0#32
  let v855 : BitVec 1 := Scalar.cmpi .slt v853 c0_i32_1068
  let c0_i32_1069 : BitVec 32 := 0#32
  let v856 : BitVec 1 := Scalar.cmpi .slt v852 c0_i32_1069
  let v857 : BitVec 1 := Scalar.xori v855 v856
  let c0_i32_1067 : BitVec 32 := 0#32
  let v854 : BitVec 1 := Scalar.cmpi .ne v853 c0_i32_1067
  let v858 : BitVec 1 := Scalar.andi v857 v854
  let v859 : BitVec 32 := Scalar.addi v853 v852
  let v860 : BitVec 32 := Scalar.select v858 v859 v853
  let c512_i32_1070 : BitVec 32 := 512#32
  let v861 : BitVec 32 := Scalar.muli v860 c512_i32_1070
  v861
def k0_dev31 (d0 : Dev nD) : Nat :=
  let c0_i32_1137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1136 : BitVec 32 := 1#32
  let v905 : BitVec 32 := Scalar.muli v13 c1_i32_1136
  let v906 : BitVec 32 := Scalar.addi c0_i32_1137 v905
  v906.toNat
def k0_dev32 (d0 : Dev nD) : Nat :=
  let c0_i32_1150 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1149 : BitVec 32 := 1#32
  let v909 : BitVec 32 := Scalar.muli v24 c1_i32_1149
  let v910 : BitVec 32 := Scalar.addi c0_i32_1150 v909
  v910.toNat
def k0_dev33 (d0 : Dev nD) : Nat :=
  let c0_i32_1200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1199 : BitVec 32 := 1#32
  let v946 : BitVec 32 := Scalar.muli v24 c1_i32_1199
  let v947 : BitVec 32 := Scalar.addi c0_i32_1200 v946
  v947.toNat
def k0_dev34 (d0 : Dev nD) : Nat :=
  let c0_i32_1213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1212 : BitVec 32 := 1#32
  let v950 : BitVec 32 := Scalar.muli v13 c1_i32_1212
  let v951 : BitVec 32 := Scalar.addi c0_i32_1213 v950
  v951.toNat
def k0_dev35 (d0 : Dev nD) : Nat :=
  let c0_i32_1263 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1262 : BitVec 32 := 1#32
  let v987 : BitVec 32 := Scalar.muli v13 c1_i32_1262
  let v988 : BitVec 32 := Scalar.addi c0_i32_1263 v987
  v988.toNat
def k0_dev36 (d0 : Dev nD) : Nat :=
  let c0_i32_1276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1275 : BitVec 32 := 1#32
  let v991 : BitVec 32 := Scalar.muli v24 c1_i32_1275
  let v992 : BitVec 32 := Scalar.addi c0_i32_1276 v991
  v992.toNat
def k0_dev37 (d0 : Dev nD) : Nat :=
  let c0_i32_1326 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1325 : BitVec 32 := 1#32
  let v1028 : BitVec 32 := Scalar.muli v24 c1_i32_1325
  let v1029 : BitVec 32 := Scalar.addi c0_i32_1326 v1028
  v1029.toNat
def k0_dev38 (d0 : Dev nD) : Nat :=
  let c0_i32_1339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1338 : BitVec 32 := 1#32
  let v1032 : BitVec 32 := Scalar.muli v13 c1_i32_1338
  let v1033 : BitVec 32 := Scalar.addi c0_i32_1339 v1032
  v1033.toNat
def k0_mult15 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v1042 : BitVec 32 := Scalar.subi v2 c7_i32
  let c1_i32_1344 : BitVec 32 := 1#32
  let v1043 : BitVec 32 := Scalar.subi v1042 c1_i32_1344
  let c16_i32_1345 : BitVec 32 := 16#32
  let c0_i32_1346 : BitVec 32 := 0#32
  let v1044 : BitVec 1 := Scalar.cmpi .eq c16_i32_1345 c0_i32_1346
  let c1_i32_1347 : BitVec 32 := 1#32
  let v1045 : BitVec 32 := Scalar.select v1044 c1_i32_1347 c16_i32_1345
  let v1046 : BitVec 32 := Scalar.remsi v1043 v1045
  let c0_i32_1349 : BitVec 32 := 0#32
  let v1048 : BitVec 1 := Scalar.cmpi .slt v1046 c0_i32_1349
  let c0_i32_1350 : BitVec 32 := 0#32
  let v1049 : BitVec 1 := Scalar.cmpi .slt v1045 c0_i32_1350
  let v1050 : BitVec 1 := Scalar.xori v1048 v1049
  let c0_i32_1348 : BitVec 32 := 0#32
  let v1047 : BitVec 1 := Scalar.cmpi .ne v1046 c0_i32_1348
  let v1051 : BitVec 1 := Scalar.andi v1050 v1047
  let v1052 : BitVec 32 := Scalar.addi v1046 v1045
  let v1053 : BitVec 32 := Scalar.select v1051 v1052 v1046
  let c512_i32_1351 : BitVec 32 := 512#32
  let v1054 : BitVec 32 := Scalar.muli v1053 c512_i32_1351
  v1054
def k0_mult16 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1359 : BitVec 32 := 7#32
  let v1061 : BitVec 32 := Scalar.addi v2 c7_i32_1359
  let c1_i32_1360 : BitVec 32 := 1#32
  let v1062 : BitVec 32 := Scalar.addi v1061 c1_i32_1360
  let c16_i32_1361 : BitVec 32 := 16#32
  let c0_i32_1362 : BitVec 32 := 0#32
  let v1063 : BitVec 1 := Scalar.cmpi .eq c16_i32_1361 c0_i32_1362
  let c1_i32_1363 : BitVec 32 := 1#32
  let v1064 : BitVec 32 := Scalar.select v1063 c1_i32_1363 c16_i32_1361
  let v1065 : BitVec 32 := Scalar.remsi v1062 v1064
  let c0_i32_1365 : BitVec 32 := 0#32
  let v1067 : BitVec 1 := Scalar.cmpi .slt v1065 c0_i32_1365
  let c0_i32_1366 : BitVec 32 := 0#32
  let v1068 : BitVec 1 := Scalar.cmpi .slt v1064 c0_i32_1366
  let v1069 : BitVec 1 := Scalar.xori v1067 v1068
  let c0_i32_1364 : BitVec 32 := 0#32
  let v1066 : BitVec 1 := Scalar.cmpi .ne v1065 c0_i32_1364
  let v1070 : BitVec 1 := Scalar.andi v1069 v1066
  let v1071 : BitVec 32 := Scalar.addi v1065 v1064
  let v1072 : BitVec 32 := Scalar.select v1070 v1071 v1065
  let c512_i32_1367 : BitVec 32 := 512#32
  let v1073 : BitVec 32 := Scalar.muli v1072 c512_i32_1367
  v1073
def k0_dev39 (d0 : Dev nD) : Nat :=
  let c0_i32_1434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1433 : BitVec 32 := 1#32
  let v1117 : BitVec 32 := Scalar.muli v13 c1_i32_1433
  let v1118 : BitVec 32 := Scalar.addi c0_i32_1434 v1117
  v1118.toNat
def k0_dev40 (d0 : Dev nD) : Nat :=
  let c0_i32_1447 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1446 : BitVec 32 := 1#32
  let v1121 : BitVec 32 := Scalar.muli v24 c1_i32_1446
  let v1122 : BitVec 32 := Scalar.addi c0_i32_1447 v1121
  v1122.toNat
def k0_dev41 (d0 : Dev nD) : Nat :=
  let c0_i32_1497 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1496 : BitVec 32 := 1#32
  let v1158 : BitVec 32 := Scalar.muli v24 c1_i32_1496
  let v1159 : BitVec 32 := Scalar.addi c0_i32_1497 v1158
  v1159.toNat
def k0_dev42 (d0 : Dev nD) : Nat :=
  let c0_i32_1510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1509 : BitVec 32 := 1#32
  let v1162 : BitVec 32 := Scalar.muli v13 c1_i32_1509
  let v1163 : BitVec 32 := Scalar.addi c0_i32_1510 v1162
  v1163.toNat
def k0_dev43 (d0 : Dev nD) : Nat :=
  let c0_i32_1560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1559 : BitVec 32 := 1#32
  let v1199 : BitVec 32 := Scalar.muli v13 c1_i32_1559
  let v1200 : BitVec 32 := Scalar.addi c0_i32_1560 v1199
  v1200.toNat
def k0_dev44 (d0 : Dev nD) : Nat :=
  let c0_i32_1573 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1572 : BitVec 32 := 1#32
  let v1203 : BitVec 32 := Scalar.muli v24 c1_i32_1572
  let v1204 : BitVec 32 := Scalar.addi c0_i32_1573 v1203
  v1204.toNat
def k0_dev45 (d0 : Dev nD) : Nat :=
  let c0_i32_1623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1622 : BitVec 32 := 1#32
  let v1240 : BitVec 32 := Scalar.muli v24 c1_i32_1622
  let v1241 : BitVec 32 := Scalar.addi c0_i32_1623 v1240
  v1241.toNat
def k0_dev46 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1635 : BitVec 32 := 1#32
  let v1244 : BitVec 32 := Scalar.muli v13 c1_i32_1635
  let v1245 : BitVec 32 := Scalar.addi c0_i32_1636 v1244
  v1245.toNat
def k0_mult17 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v1254 : BitVec 32 := Scalar.subi v2 c8_i32
  let c1_i32_1641 : BitVec 32 := 1#32
  let v1255 : BitVec 32 := Scalar.subi v1254 c1_i32_1641
  let c16_i32_1642 : BitVec 32 := 16#32
  let c0_i32_1643 : BitVec 32 := 0#32
  let v1256 : BitVec 1 := Scalar.cmpi .eq c16_i32_1642 c0_i32_1643
  let c1_i32_1644 : BitVec 32 := 1#32
  let v1257 : BitVec 32 := Scalar.select v1256 c1_i32_1644 c16_i32_1642
  let v1258 : BitVec 32 := Scalar.remsi v1255 v1257
  let c0_i32_1646 : BitVec 32 := 0#32
  let v1260 : BitVec 1 := Scalar.cmpi .slt v1258 c0_i32_1646
  let c0_i32_1647 : BitVec 32 := 0#32
  let v1261 : BitVec 1 := Scalar.cmpi .slt v1257 c0_i32_1647
  let v1262 : BitVec 1 := Scalar.xori v1260 v1261
  let c0_i32_1645 : BitVec 32 := 0#32
  let v1259 : BitVec 1 := Scalar.cmpi .ne v1258 c0_i32_1645
  let v1263 : BitVec 1 := Scalar.andi v1262 v1259
  let v1264 : BitVec 32 := Scalar.addi v1258 v1257
  let v1265 : BitVec 32 := Scalar.select v1263 v1264 v1258
  let c512_i32_1648 : BitVec 32 := 512#32
  let v1266 : BitVec 32 := Scalar.muli v1265 c512_i32_1648
  v1266
def k0_mult18 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1656 : BitVec 32 := 8#32
  let v1273 : BitVec 32 := Scalar.addi v2 c8_i32_1656
  let c1_i32_1657 : BitVec 32 := 1#32
  let v1274 : BitVec 32 := Scalar.addi v1273 c1_i32_1657
  let c16_i32_1658 : BitVec 32 := 16#32
  let c0_i32_1659 : BitVec 32 := 0#32
  let v1275 : BitVec 1 := Scalar.cmpi .eq c16_i32_1658 c0_i32_1659
  let c1_i32_1660 : BitVec 32 := 1#32
  let v1276 : BitVec 32 := Scalar.select v1275 c1_i32_1660 c16_i32_1658
  let v1277 : BitVec 32 := Scalar.remsi v1274 v1276
  let c0_i32_1662 : BitVec 32 := 0#32
  let v1279 : BitVec 1 := Scalar.cmpi .slt v1277 c0_i32_1662
  let c0_i32_1663 : BitVec 32 := 0#32
  let v1280 : BitVec 1 := Scalar.cmpi .slt v1276 c0_i32_1663
  let v1281 : BitVec 1 := Scalar.xori v1279 v1280
  let c0_i32_1661 : BitVec 32 := 0#32
  let v1278 : BitVec 1 := Scalar.cmpi .ne v1277 c0_i32_1661
  let v1282 : BitVec 1 := Scalar.andi v1281 v1278
  let v1283 : BitVec 32 := Scalar.addi v1277 v1276
  let v1284 : BitVec 32 := Scalar.select v1282 v1283 v1277
  let c512_i32_1664 : BitVec 32 := 512#32
  let v1285 : BitVec 32 := Scalar.muli v1284 c512_i32_1664
  v1285
def k0_dev47 (d0 : Dev nD) : Nat :=
  let c0_i32_1731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1730 : BitVec 32 := 1#32
  let v1329 : BitVec 32 := Scalar.muli v13 c1_i32_1730
  let v1330 : BitVec 32 := Scalar.addi c0_i32_1731 v1329
  v1330.toNat
def k0_dev48 (d0 : Dev nD) : Nat :=
  let c0_i32_1744 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1743 : BitVec 32 := 1#32
  let v1333 : BitVec 32 := Scalar.muli v24 c1_i32_1743
  let v1334 : BitVec 32 := Scalar.addi c0_i32_1744 v1333
  v1334.toNat
def k0_dev49 (d0 : Dev nD) : Nat :=
  let c0_i32_1794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1793 : BitVec 32 := 1#32
  let v1370 : BitVec 32 := Scalar.muli v24 c1_i32_1793
  let v1371 : BitVec 32 := Scalar.addi c0_i32_1794 v1370
  v1371.toNat
def k0_dev50 (d0 : Dev nD) : Nat :=
  let c0_i32_1807 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1806 : BitVec 32 := 1#32
  let v1374 : BitVec 32 := Scalar.muli v13 c1_i32_1806
  let v1375 : BitVec 32 := Scalar.addi c0_i32_1807 v1374
  v1375.toNat
def k0_dev51 (d0 : Dev nD) : Nat :=
  let c0_i32_1857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1856 : BitVec 32 := 1#32
  let v1411 : BitVec 32 := Scalar.muli v13 c1_i32_1856
  let v1412 : BitVec 32 := Scalar.addi c0_i32_1857 v1411
  v1412.toNat
def k0_dev52 (d0 : Dev nD) : Nat :=
  let c0_i32_1870 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1869 : BitVec 32 := 1#32
  let v1415 : BitVec 32 := Scalar.muli v24 c1_i32_1869
  let v1416 : BitVec 32 := Scalar.addi c0_i32_1870 v1415
  v1416.toNat
def k0_dev53 (d0 : Dev nD) : Nat :=
  let c0_i32_1920 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1919 : BitVec 32 := 1#32
  let v1452 : BitVec 32 := Scalar.muli v24 c1_i32_1919
  let v1453 : BitVec 32 := Scalar.addi c0_i32_1920 v1452
  v1453.toNat
def k0_dev54 (d0 : Dev nD) : Nat :=
  let c0_i32_1933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1932 : BitVec 32 := 1#32
  let v1456 : BitVec 32 := Scalar.muli v13 c1_i32_1932
  let v1457 : BitVec 32 := Scalar.addi c0_i32_1933 v1456
  v1457.toNat
def k0_mult19 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v1466 : BitVec 32 := Scalar.subi v2 c9_i32
  let c1_i32_1938 : BitVec 32 := 1#32
  let v1467 : BitVec 32 := Scalar.subi v1466 c1_i32_1938
  let c16_i32_1939 : BitVec 32 := 16#32
  let c0_i32_1940 : BitVec 32 := 0#32
  let v1468 : BitVec 1 := Scalar.cmpi .eq c16_i32_1939 c0_i32_1940
  let c1_i32_1941 : BitVec 32 := 1#32
  let v1469 : BitVec 32 := Scalar.select v1468 c1_i32_1941 c16_i32_1939
  let v1470 : BitVec 32 := Scalar.remsi v1467 v1469
  let c0_i32_1943 : BitVec 32 := 0#32
  let v1472 : BitVec 1 := Scalar.cmpi .slt v1470 c0_i32_1943
  let c0_i32_1944 : BitVec 32 := 0#32
  let v1473 : BitVec 1 := Scalar.cmpi .slt v1469 c0_i32_1944
  let v1474 : BitVec 1 := Scalar.xori v1472 v1473
  let c0_i32_1942 : BitVec 32 := 0#32
  let v1471 : BitVec 1 := Scalar.cmpi .ne v1470 c0_i32_1942
  let v1475 : BitVec 1 := Scalar.andi v1474 v1471
  let v1476 : BitVec 32 := Scalar.addi v1470 v1469
  let v1477 : BitVec 32 := Scalar.select v1475 v1476 v1470
  let c512_i32_1945 : BitVec 32 := 512#32
  let v1478 : BitVec 32 := Scalar.muli v1477 c512_i32_1945
  v1478
def k0_mult20 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1953 : BitVec 32 := 9#32
  let v1485 : BitVec 32 := Scalar.addi v2 c9_i32_1953
  let c1_i32_1954 : BitVec 32 := 1#32
  let v1486 : BitVec 32 := Scalar.addi v1485 c1_i32_1954
  let c16_i32_1955 : BitVec 32 := 16#32
  let c0_i32_1956 : BitVec 32 := 0#32
  let v1487 : BitVec 1 := Scalar.cmpi .eq c16_i32_1955 c0_i32_1956
  let c1_i32_1957 : BitVec 32 := 1#32
  let v1488 : BitVec 32 := Scalar.select v1487 c1_i32_1957 c16_i32_1955
  let v1489 : BitVec 32 := Scalar.remsi v1486 v1488
  let c0_i32_1959 : BitVec 32 := 0#32
  let v1491 : BitVec 1 := Scalar.cmpi .slt v1489 c0_i32_1959
  let c0_i32_1960 : BitVec 32 := 0#32
  let v1492 : BitVec 1 := Scalar.cmpi .slt v1488 c0_i32_1960
  let v1493 : BitVec 1 := Scalar.xori v1491 v1492
  let c0_i32_1958 : BitVec 32 := 0#32
  let v1490 : BitVec 1 := Scalar.cmpi .ne v1489 c0_i32_1958
  let v1494 : BitVec 1 := Scalar.andi v1493 v1490
  let v1495 : BitVec 32 := Scalar.addi v1489 v1488
  let v1496 : BitVec 32 := Scalar.select v1494 v1495 v1489
  let c512_i32_1961 : BitVec 32 := 512#32
  let v1497 : BitVec 32 := Scalar.muli v1496 c512_i32_1961
  v1497
def k0_dev55 (d0 : Dev nD) : Nat :=
  let c0_i32_2028 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2027 : BitVec 32 := 1#32
  let v1541 : BitVec 32 := Scalar.muli v13 c1_i32_2027
  let v1542 : BitVec 32 := Scalar.addi c0_i32_2028 v1541
  v1542.toNat
def k0_dev56 (d0 : Dev nD) : Nat :=
  let c0_i32_2041 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2040 : BitVec 32 := 1#32
  let v1545 : BitVec 32 := Scalar.muli v24 c1_i32_2040
  let v1546 : BitVec 32 := Scalar.addi c0_i32_2041 v1545
  v1546.toNat
def k0_dev57 (d0 : Dev nD) : Nat :=
  let c0_i32_2091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2090 : BitVec 32 := 1#32
  let v1582 : BitVec 32 := Scalar.muli v24 c1_i32_2090
  let v1583 : BitVec 32 := Scalar.addi c0_i32_2091 v1582
  v1583.toNat
def k0_dev58 (d0 : Dev nD) : Nat :=
  let c0_i32_2104 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2103 : BitVec 32 := 1#32
  let v1586 : BitVec 32 := Scalar.muli v13 c1_i32_2103
  let v1587 : BitVec 32 := Scalar.addi c0_i32_2104 v1586
  v1587.toNat
def k0_dev59 (d0 : Dev nD) : Nat :=
  let c0_i32_2154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2153 : BitVec 32 := 1#32
  let v1623 : BitVec 32 := Scalar.muli v13 c1_i32_2153
  let v1624 : BitVec 32 := Scalar.addi c0_i32_2154 v1623
  v1624.toNat
def k0_dev60 (d0 : Dev nD) : Nat :=
  let c0_i32_2167 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2166 : BitVec 32 := 1#32
  let v1627 : BitVec 32 := Scalar.muli v24 c1_i32_2166
  let v1628 : BitVec 32 := Scalar.addi c0_i32_2167 v1627
  v1628.toNat
def k0_dev61 (d0 : Dev nD) : Nat :=
  let c0_i32_2217 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2216 : BitVec 32 := 1#32
  let v1664 : BitVec 32 := Scalar.muli v24 c1_i32_2216
  let v1665 : BitVec 32 := Scalar.addi c0_i32_2217 v1664
  v1665.toNat
def k0_dev62 (d0 : Dev nD) : Nat :=
  let c0_i32_2230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2229 : BitVec 32 := 1#32
  let v1668 : BitVec 32 := Scalar.muli v13 c1_i32_2229
  let v1669 : BitVec 32 := Scalar.addi c0_i32_2230 v1668
  v1669.toNat
def k0_mult21 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v1678 : BitVec 32 := Scalar.subi v2 c10_i32
  let c1_i32_2235 : BitVec 32 := 1#32
  let v1679 : BitVec 32 := Scalar.subi v1678 c1_i32_2235
  let c16_i32_2236 : BitVec 32 := 16#32
  let c0_i32_2237 : BitVec 32 := 0#32
  let v1680 : BitVec 1 := Scalar.cmpi .eq c16_i32_2236 c0_i32_2237
  let c1_i32_2238 : BitVec 32 := 1#32
  let v1681 : BitVec 32 := Scalar.select v1680 c1_i32_2238 c16_i32_2236
  let v1682 : BitVec 32 := Scalar.remsi v1679 v1681
  let c0_i32_2240 : BitVec 32 := 0#32
  let v1684 : BitVec 1 := Scalar.cmpi .slt v1682 c0_i32_2240
  let c0_i32_2241 : BitVec 32 := 0#32
  let v1685 : BitVec 1 := Scalar.cmpi .slt v1681 c0_i32_2241
  let v1686 : BitVec 1 := Scalar.xori v1684 v1685
  let c0_i32_2239 : BitVec 32 := 0#32
  let v1683 : BitVec 1 := Scalar.cmpi .ne v1682 c0_i32_2239
  let v1687 : BitVec 1 := Scalar.andi v1686 v1683
  let v1688 : BitVec 32 := Scalar.addi v1682 v1681
  let v1689 : BitVec 32 := Scalar.select v1687 v1688 v1682
  let c512_i32_2242 : BitVec 32 := 512#32
  let v1690 : BitVec 32 := Scalar.muli v1689 c512_i32_2242
  v1690
def k0_mult22 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2250 : BitVec 32 := 10#32
  let v1697 : BitVec 32 := Scalar.addi v2 c10_i32_2250
  let c1_i32_2251 : BitVec 32 := 1#32
  let v1698 : BitVec 32 := Scalar.addi v1697 c1_i32_2251
  let c16_i32_2252 : BitVec 32 := 16#32
  let c0_i32_2253 : BitVec 32 := 0#32
  let v1699 : BitVec 1 := Scalar.cmpi .eq c16_i32_2252 c0_i32_2253
  let c1_i32_2254 : BitVec 32 := 1#32
  let v1700 : BitVec 32 := Scalar.select v1699 c1_i32_2254 c16_i32_2252
  let v1701 : BitVec 32 := Scalar.remsi v1698 v1700
  let c0_i32_2256 : BitVec 32 := 0#32
  let v1703 : BitVec 1 := Scalar.cmpi .slt v1701 c0_i32_2256
  let c0_i32_2257 : BitVec 32 := 0#32
  let v1704 : BitVec 1 := Scalar.cmpi .slt v1700 c0_i32_2257
  let v1705 : BitVec 1 := Scalar.xori v1703 v1704
  let c0_i32_2255 : BitVec 32 := 0#32
  let v1702 : BitVec 1 := Scalar.cmpi .ne v1701 c0_i32_2255
  let v1706 : BitVec 1 := Scalar.andi v1705 v1702
  let v1707 : BitVec 32 := Scalar.addi v1701 v1700
  let v1708 : BitVec 32 := Scalar.select v1706 v1707 v1701
  let c512_i32_2258 : BitVec 32 := 512#32
  let v1709 : BitVec 32 := Scalar.muli v1708 c512_i32_2258
  v1709
def k0_dev63 (d0 : Dev nD) : Nat :=
  let c0_i32_2325 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2324 : BitVec 32 := 1#32
  let v1753 : BitVec 32 := Scalar.muli v13 c1_i32_2324
  let v1754 : BitVec 32 := Scalar.addi c0_i32_2325 v1753
  v1754.toNat
def k0_dev64 (d0 : Dev nD) : Nat :=
  let c0_i32_2338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2337 : BitVec 32 := 1#32
  let v1757 : BitVec 32 := Scalar.muli v24 c1_i32_2337
  let v1758 : BitVec 32 := Scalar.addi c0_i32_2338 v1757
  v1758.toNat
def k0_dev65 (d0 : Dev nD) : Nat :=
  let c0_i32_2388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2387 : BitVec 32 := 1#32
  let v1794 : BitVec 32 := Scalar.muli v24 c1_i32_2387
  let v1795 : BitVec 32 := Scalar.addi c0_i32_2388 v1794
  v1795.toNat
def k0_dev66 (d0 : Dev nD) : Nat :=
  let c0_i32_2401 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2400 : BitVec 32 := 1#32
  let v1798 : BitVec 32 := Scalar.muli v13 c1_i32_2400
  let v1799 : BitVec 32 := Scalar.addi c0_i32_2401 v1798
  v1799.toNat
def k0_dev67 (d0 : Dev nD) : Nat :=
  let c0_i32_2451 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2450 : BitVec 32 := 1#32
  let v1835 : BitVec 32 := Scalar.muli v13 c1_i32_2450
  let v1836 : BitVec 32 := Scalar.addi c0_i32_2451 v1835
  v1836.toNat
def k0_dev68 (d0 : Dev nD) : Nat :=
  let c0_i32_2464 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2463 : BitVec 32 := 1#32
  let v1839 : BitVec 32 := Scalar.muli v24 c1_i32_2463
  let v1840 : BitVec 32 := Scalar.addi c0_i32_2464 v1839
  v1840.toNat
def k0_dev69 (d0 : Dev nD) : Nat :=
  let c0_i32_2514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2513 : BitVec 32 := 1#32
  let v1876 : BitVec 32 := Scalar.muli v24 c1_i32_2513
  let v1877 : BitVec 32 := Scalar.addi c0_i32_2514 v1876
  v1877.toNat
def k0_dev70 (d0 : Dev nD) : Nat :=
  let c0_i32_2527 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2526 : BitVec 32 := 1#32
  let v1880 : BitVec 32 := Scalar.muli v13 c1_i32_2526
  let v1881 : BitVec 32 := Scalar.addi c0_i32_2527 v1880
  v1881.toNat
def k0_mult23 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v1890 : BitVec 32 := Scalar.subi v2 c11_i32
  let c1_i32_2532 : BitVec 32 := 1#32
  let v1891 : BitVec 32 := Scalar.subi v1890 c1_i32_2532
  let c16_i32_2533 : BitVec 32 := 16#32
  let c0_i32_2534 : BitVec 32 := 0#32
  let v1892 : BitVec 1 := Scalar.cmpi .eq c16_i32_2533 c0_i32_2534
  let c1_i32_2535 : BitVec 32 := 1#32
  let v1893 : BitVec 32 := Scalar.select v1892 c1_i32_2535 c16_i32_2533
  let v1894 : BitVec 32 := Scalar.remsi v1891 v1893
  let c0_i32_2537 : BitVec 32 := 0#32
  let v1896 : BitVec 1 := Scalar.cmpi .slt v1894 c0_i32_2537
  let c0_i32_2538 : BitVec 32 := 0#32
  let v1897 : BitVec 1 := Scalar.cmpi .slt v1893 c0_i32_2538
  let v1898 : BitVec 1 := Scalar.xori v1896 v1897
  let c0_i32_2536 : BitVec 32 := 0#32
  let v1895 : BitVec 1 := Scalar.cmpi .ne v1894 c0_i32_2536
  let v1899 : BitVec 1 := Scalar.andi v1898 v1895
  let v1900 : BitVec 32 := Scalar.addi v1894 v1893
  let v1901 : BitVec 32 := Scalar.select v1899 v1900 v1894
  let c512_i32_2539 : BitVec 32 := 512#32
  let v1902 : BitVec 32 := Scalar.muli v1901 c512_i32_2539
  v1902
def k0_mult24 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2547 : BitVec 32 := 11#32
  let v1909 : BitVec 32 := Scalar.addi v2 c11_i32_2547
  let c1_i32_2548 : BitVec 32 := 1#32
  let v1910 : BitVec 32 := Scalar.addi v1909 c1_i32_2548
  let c16_i32_2549 : BitVec 32 := 16#32
  let c0_i32_2550 : BitVec 32 := 0#32
  let v1911 : BitVec 1 := Scalar.cmpi .eq c16_i32_2549 c0_i32_2550
  let c1_i32_2551 : BitVec 32 := 1#32
  let v1912 : BitVec 32 := Scalar.select v1911 c1_i32_2551 c16_i32_2549
  let v1913 : BitVec 32 := Scalar.remsi v1910 v1912
  let c0_i32_2553 : BitVec 32 := 0#32
  let v1915 : BitVec 1 := Scalar.cmpi .slt v1913 c0_i32_2553
  let c0_i32_2554 : BitVec 32 := 0#32
  let v1916 : BitVec 1 := Scalar.cmpi .slt v1912 c0_i32_2554
  let v1917 : BitVec 1 := Scalar.xori v1915 v1916
  let c0_i32_2552 : BitVec 32 := 0#32
  let v1914 : BitVec 1 := Scalar.cmpi .ne v1913 c0_i32_2552
  let v1918 : BitVec 1 := Scalar.andi v1917 v1914
  let v1919 : BitVec 32 := Scalar.addi v1913 v1912
  let v1920 : BitVec 32 := Scalar.select v1918 v1919 v1913
  let c512_i32_2555 : BitVec 32 := 512#32
  let v1921 : BitVec 32 := Scalar.muli v1920 c512_i32_2555
  v1921
def k0_dev71 (d0 : Dev nD) : Nat :=
  let c0_i32_2622 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2621 : BitVec 32 := 1#32
  let v1965 : BitVec 32 := Scalar.muli v13 c1_i32_2621
  let v1966 : BitVec 32 := Scalar.addi c0_i32_2622 v1965
  v1966.toNat
def k0_dev72 (d0 : Dev nD) : Nat :=
  let c0_i32_2635 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2634 : BitVec 32 := 1#32
  let v1969 : BitVec 32 := Scalar.muli v24 c1_i32_2634
  let v1970 : BitVec 32 := Scalar.addi c0_i32_2635 v1969
  v1970.toNat
def k0_dev73 (d0 : Dev nD) : Nat :=
  let c0_i32_2685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2684 : BitVec 32 := 1#32
  let v2006 : BitVec 32 := Scalar.muli v24 c1_i32_2684
  let v2007 : BitVec 32 := Scalar.addi c0_i32_2685 v2006
  v2007.toNat
def k0_dev74 (d0 : Dev nD) : Nat :=
  let c0_i32_2698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2697 : BitVec 32 := 1#32
  let v2010 : BitVec 32 := Scalar.muli v13 c1_i32_2697
  let v2011 : BitVec 32 := Scalar.addi c0_i32_2698 v2010
  v2011.toNat
def k0_dev75 (d0 : Dev nD) : Nat :=
  let c0_i32_2748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2747 : BitVec 32 := 1#32
  let v2047 : BitVec 32 := Scalar.muli v13 c1_i32_2747
  let v2048 : BitVec 32 := Scalar.addi c0_i32_2748 v2047
  v2048.toNat
def k0_dev76 (d0 : Dev nD) : Nat :=
  let c0_i32_2761 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2760 : BitVec 32 := 1#32
  let v2051 : BitVec 32 := Scalar.muli v24 c1_i32_2760
  let v2052 : BitVec 32 := Scalar.addi c0_i32_2761 v2051
  v2052.toNat
def k0_dev77 (d0 : Dev nD) : Nat :=
  let c0_i32_2811 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2810 : BitVec 32 := 1#32
  let v2088 : BitVec 32 := Scalar.muli v24 c1_i32_2810
  let v2089 : BitVec 32 := Scalar.addi c0_i32_2811 v2088
  v2089.toNat
def k0_dev78 (d0 : Dev nD) : Nat :=
  let c0_i32_2824 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2823 : BitVec 32 := 1#32
  let v2092 : BitVec 32 := Scalar.muli v13 c1_i32_2823
  let v2093 : BitVec 32 := Scalar.addi c0_i32_2824 v2092
  v2093.toNat
def k0_mult25 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v2102 : BitVec 32 := Scalar.subi v2 c12_i32
  let c1_i32_2829 : BitVec 32 := 1#32
  let v2103 : BitVec 32 := Scalar.subi v2102 c1_i32_2829
  let c16_i32_2830 : BitVec 32 := 16#32
  let c0_i32_2831 : BitVec 32 := 0#32
  let v2104 : BitVec 1 := Scalar.cmpi .eq c16_i32_2830 c0_i32_2831
  let c1_i32_2832 : BitVec 32 := 1#32
  let v2105 : BitVec 32 := Scalar.select v2104 c1_i32_2832 c16_i32_2830
  let v2106 : BitVec 32 := Scalar.remsi v2103 v2105
  let c0_i32_2834 : BitVec 32 := 0#32
  let v2108 : BitVec 1 := Scalar.cmpi .slt v2106 c0_i32_2834
  let c0_i32_2835 : BitVec 32 := 0#32
  let v2109 : BitVec 1 := Scalar.cmpi .slt v2105 c0_i32_2835
  let v2110 : BitVec 1 := Scalar.xori v2108 v2109
  let c0_i32_2833 : BitVec 32 := 0#32
  let v2107 : BitVec 1 := Scalar.cmpi .ne v2106 c0_i32_2833
  let v2111 : BitVec 1 := Scalar.andi v2110 v2107
  let v2112 : BitVec 32 := Scalar.addi v2106 v2105
  let v2113 : BitVec 32 := Scalar.select v2111 v2112 v2106
  let c512_i32_2836 : BitVec 32 := 512#32
  let v2114 : BitVec 32 := Scalar.muli v2113 c512_i32_2836
  v2114
def k0_mult26 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2844 : BitVec 32 := 12#32
  let v2121 : BitVec 32 := Scalar.addi v2 c12_i32_2844
  let c1_i32_2845 : BitVec 32 := 1#32
  let v2122 : BitVec 32 := Scalar.addi v2121 c1_i32_2845
  let c16_i32_2846 : BitVec 32 := 16#32
  let c0_i32_2847 : BitVec 32 := 0#32
  let v2123 : BitVec 1 := Scalar.cmpi .eq c16_i32_2846 c0_i32_2847
  let c1_i32_2848 : BitVec 32 := 1#32
  let v2124 : BitVec 32 := Scalar.select v2123 c1_i32_2848 c16_i32_2846
  let v2125 : BitVec 32 := Scalar.remsi v2122 v2124
  let c0_i32_2850 : BitVec 32 := 0#32
  let v2127 : BitVec 1 := Scalar.cmpi .slt v2125 c0_i32_2850
  let c0_i32_2851 : BitVec 32 := 0#32
  let v2128 : BitVec 1 := Scalar.cmpi .slt v2124 c0_i32_2851
  let v2129 : BitVec 1 := Scalar.xori v2127 v2128
  let c0_i32_2849 : BitVec 32 := 0#32
  let v2126 : BitVec 1 := Scalar.cmpi .ne v2125 c0_i32_2849
  let v2130 : BitVec 1 := Scalar.andi v2129 v2126
  let v2131 : BitVec 32 := Scalar.addi v2125 v2124
  let v2132 : BitVec 32 := Scalar.select v2130 v2131 v2125
  let c512_i32_2852 : BitVec 32 := 512#32
  let v2133 : BitVec 32 := Scalar.muli v2132 c512_i32_2852
  v2133
def k0_dev79 (d0 : Dev nD) : Nat :=
  let c0_i32_2919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2918 : BitVec 32 := 1#32
  let v2177 : BitVec 32 := Scalar.muli v13 c1_i32_2918
  let v2178 : BitVec 32 := Scalar.addi c0_i32_2919 v2177
  v2178.toNat
def k0_dev80 (d0 : Dev nD) : Nat :=
  let c0_i32_2932 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2931 : BitVec 32 := 1#32
  let v2181 : BitVec 32 := Scalar.muli v24 c1_i32_2931
  let v2182 : BitVec 32 := Scalar.addi c0_i32_2932 v2181
  v2182.toNat
def k0_dev81 (d0 : Dev nD) : Nat :=
  let c0_i32_2982 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_2981 : BitVec 32 := 1#32
  let v2218 : BitVec 32 := Scalar.muli v24 c1_i32_2981
  let v2219 : BitVec 32 := Scalar.addi c0_i32_2982 v2218
  v2219.toNat
def k0_dev82 (d0 : Dev nD) : Nat :=
  let c0_i32_2995 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_2994 : BitVec 32 := 1#32
  let v2222 : BitVec 32 := Scalar.muli v13 c1_i32_2994
  let v2223 : BitVec 32 := Scalar.addi c0_i32_2995 v2222
  v2223.toNat
def k0_dev83 (d0 : Dev nD) : Nat :=
  let c0_i32_3045 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3044 : BitVec 32 := 1#32
  let v2259 : BitVec 32 := Scalar.muli v13 c1_i32_3044
  let v2260 : BitVec 32 := Scalar.addi c0_i32_3045 v2259
  v2260.toNat
def k0_dev84 (d0 : Dev nD) : Nat :=
  let c0_i32_3058 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3057 : BitVec 32 := 1#32
  let v2263 : BitVec 32 := Scalar.muli v24 c1_i32_3057
  let v2264 : BitVec 32 := Scalar.addi c0_i32_3058 v2263
  v2264.toNat
def k0_dev85 (d0 : Dev nD) : Nat :=
  let c0_i32_3108 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3107 : BitVec 32 := 1#32
  let v2300 : BitVec 32 := Scalar.muli v24 c1_i32_3107
  let v2301 : BitVec 32 := Scalar.addi c0_i32_3108 v2300
  v2301.toNat
def k0_dev86 (d0 : Dev nD) : Nat :=
  let c0_i32_3121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3120 : BitVec 32 := 1#32
  let v2304 : BitVec 32 := Scalar.muli v13 c1_i32_3120
  let v2305 : BitVec 32 := Scalar.addi c0_i32_3121 v2304
  v2305.toNat
def k0_mult27 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v2314 : BitVec 32 := Scalar.subi v2 c13_i32
  let c1_i32_3126 : BitVec 32 := 1#32
  let v2315 : BitVec 32 := Scalar.subi v2314 c1_i32_3126
  let c16_i32_3127 : BitVec 32 := 16#32
  let c0_i32_3128 : BitVec 32 := 0#32
  let v2316 : BitVec 1 := Scalar.cmpi .eq c16_i32_3127 c0_i32_3128
  let c1_i32_3129 : BitVec 32 := 1#32
  let v2317 : BitVec 32 := Scalar.select v2316 c1_i32_3129 c16_i32_3127
  let v2318 : BitVec 32 := Scalar.remsi v2315 v2317
  let c0_i32_3131 : BitVec 32 := 0#32
  let v2320 : BitVec 1 := Scalar.cmpi .slt v2318 c0_i32_3131
  let c0_i32_3132 : BitVec 32 := 0#32
  let v2321 : BitVec 1 := Scalar.cmpi .slt v2317 c0_i32_3132
  let v2322 : BitVec 1 := Scalar.xori v2320 v2321
  let c0_i32_3130 : BitVec 32 := 0#32
  let v2319 : BitVec 1 := Scalar.cmpi .ne v2318 c0_i32_3130
  let v2323 : BitVec 1 := Scalar.andi v2322 v2319
  let v2324 : BitVec 32 := Scalar.addi v2318 v2317
  let v2325 : BitVec 32 := Scalar.select v2323 v2324 v2318
  let c512_i32_3133 : BitVec 32 := 512#32
  let v2326 : BitVec 32 := Scalar.muli v2325 c512_i32_3133
  v2326
def k0_mult28 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_3141 : BitVec 32 := 13#32
  let v2333 : BitVec 32 := Scalar.addi v2 c13_i32_3141
  let c1_i32_3142 : BitVec 32 := 1#32
  let v2334 : BitVec 32 := Scalar.addi v2333 c1_i32_3142
  let c16_i32_3143 : BitVec 32 := 16#32
  let c0_i32_3144 : BitVec 32 := 0#32
  let v2335 : BitVec 1 := Scalar.cmpi .eq c16_i32_3143 c0_i32_3144
  let c1_i32_3145 : BitVec 32 := 1#32
  let v2336 : BitVec 32 := Scalar.select v2335 c1_i32_3145 c16_i32_3143
  let v2337 : BitVec 32 := Scalar.remsi v2334 v2336
  let c0_i32_3147 : BitVec 32 := 0#32
  let v2339 : BitVec 1 := Scalar.cmpi .slt v2337 c0_i32_3147
  let c0_i32_3148 : BitVec 32 := 0#32
  let v2340 : BitVec 1 := Scalar.cmpi .slt v2336 c0_i32_3148
  let v2341 : BitVec 1 := Scalar.xori v2339 v2340
  let c0_i32_3146 : BitVec 32 := 0#32
  let v2338 : BitVec 1 := Scalar.cmpi .ne v2337 c0_i32_3146
  let v2342 : BitVec 1 := Scalar.andi v2341 v2338
  let v2343 : BitVec 32 := Scalar.addi v2337 v2336
  let v2344 : BitVec 32 := Scalar.select v2342 v2343 v2337
  let c512_i32_3149 : BitVec 32 := 512#32
  let v2345 : BitVec 32 := Scalar.muli v2344 c512_i32_3149
  v2345
def k0_dev87 (d0 : Dev nD) : Nat :=
  let c0_i32_3216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3215 : BitVec 32 := 1#32
  let v2389 : BitVec 32 := Scalar.muli v13 c1_i32_3215
  let v2390 : BitVec 32 := Scalar.addi c0_i32_3216 v2389
  v2390.toNat
def k0_dev88 (d0 : Dev nD) : Nat :=
  let c0_i32_3229 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3228 : BitVec 32 := 1#32
  let v2393 : BitVec 32 := Scalar.muli v24 c1_i32_3228
  let v2394 : BitVec 32 := Scalar.addi c0_i32_3229 v2393
  v2394.toNat
def k0_dev89 (d0 : Dev nD) : Nat :=
  let c0_i32_3279 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3278 : BitVec 32 := 1#32
  let v2430 : BitVec 32 := Scalar.muli v24 c1_i32_3278
  let v2431 : BitVec 32 := Scalar.addi c0_i32_3279 v2430
  v2431.toNat
def k0_dev90 (d0 : Dev nD) : Nat :=
  let c0_i32_3292 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3291 : BitVec 32 := 1#32
  let v2434 : BitVec 32 := Scalar.muli v13 c1_i32_3291
  let v2435 : BitVec 32 := Scalar.addi c0_i32_3292 v2434
  v2435.toNat
def k0_dev91 (d0 : Dev nD) : Nat :=
  let c0_i32_3342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3341 : BitVec 32 := 1#32
  let v2471 : BitVec 32 := Scalar.muli v13 c1_i32_3341
  let v2472 : BitVec 32 := Scalar.addi c0_i32_3342 v2471
  v2472.toNat
def k0_dev92 (d0 : Dev nD) : Nat :=
  let c0_i32_3355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3354 : BitVec 32 := 1#32
  let v2475 : BitVec 32 := Scalar.muli v24 c1_i32_3354
  let v2476 : BitVec 32 := Scalar.addi c0_i32_3355 v2475
  v2476.toNat
def k0_dev93 (d0 : Dev nD) : Nat :=
  let c0_i32_3405 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3404 : BitVec 32 := 1#32
  let v2512 : BitVec 32 := Scalar.muli v24 c1_i32_3404
  let v2513 : BitVec 32 := Scalar.addi c0_i32_3405 v2512
  v2513.toNat
def k0_dev94 (d0 : Dev nD) : Nat :=
  let c0_i32_3418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3417 : BitVec 32 := 1#32
  let v2516 : BitVec 32 := Scalar.muli v13 c1_i32_3417
  let v2517 : BitVec 32 := Scalar.addi c0_i32_3418 v2516
  v2517.toNat
def k0_mult29 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v2526 : BitVec 32 := Scalar.subi v2 c14_i32
  let c1_i32_3423 : BitVec 32 := 1#32
  let v2527 : BitVec 32 := Scalar.subi v2526 c1_i32_3423
  let c16_i32_3424 : BitVec 32 := 16#32
  let c0_i32_3425 : BitVec 32 := 0#32
  let v2528 : BitVec 1 := Scalar.cmpi .eq c16_i32_3424 c0_i32_3425
  let c1_i32_3426 : BitVec 32 := 1#32
  let v2529 : BitVec 32 := Scalar.select v2528 c1_i32_3426 c16_i32_3424
  let v2530 : BitVec 32 := Scalar.remsi v2527 v2529
  let c0_i32_3428 : BitVec 32 := 0#32
  let v2532 : BitVec 1 := Scalar.cmpi .slt v2530 c0_i32_3428
  let c0_i32_3429 : BitVec 32 := 0#32
  let v2533 : BitVec 1 := Scalar.cmpi .slt v2529 c0_i32_3429
  let v2534 : BitVec 1 := Scalar.xori v2532 v2533
  let c0_i32_3427 : BitVec 32 := 0#32
  let v2531 : BitVec 1 := Scalar.cmpi .ne v2530 c0_i32_3427
  let v2535 : BitVec 1 := Scalar.andi v2534 v2531
  let v2536 : BitVec 32 := Scalar.addi v2530 v2529
  let v2537 : BitVec 32 := Scalar.select v2535 v2536 v2530
  let c512_i32_3430 : BitVec 32 := 512#32
  let v2538 : BitVec 32 := Scalar.muli v2537 c512_i32_3430
  v2538
def k0_mult30 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_3438 : BitVec 32 := 14#32
  let v2545 : BitVec 32 := Scalar.addi v2 c14_i32_3438
  let c1_i32_3439 : BitVec 32 := 1#32
  let v2546 : BitVec 32 := Scalar.addi v2545 c1_i32_3439
  let c16_i32_3440 : BitVec 32 := 16#32
  let c0_i32_3441 : BitVec 32 := 0#32
  let v2547 : BitVec 1 := Scalar.cmpi .eq c16_i32_3440 c0_i32_3441
  let c1_i32_3442 : BitVec 32 := 1#32
  let v2548 : BitVec 32 := Scalar.select v2547 c1_i32_3442 c16_i32_3440
  let v2549 : BitVec 32 := Scalar.remsi v2546 v2548
  let c0_i32_3444 : BitVec 32 := 0#32
  let v2551 : BitVec 1 := Scalar.cmpi .slt v2549 c0_i32_3444
  let c0_i32_3445 : BitVec 32 := 0#32
  let v2552 : BitVec 1 := Scalar.cmpi .slt v2548 c0_i32_3445
  let v2553 : BitVec 1 := Scalar.xori v2551 v2552
  let c0_i32_3443 : BitVec 32 := 0#32
  let v2550 : BitVec 1 := Scalar.cmpi .ne v2549 c0_i32_3443
  let v2554 : BitVec 1 := Scalar.andi v2553 v2550
  let v2555 : BitVec 32 := Scalar.addi v2549 v2548
  let v2556 : BitVec 32 := Scalar.select v2554 v2555 v2549
  let c512_i32_3446 : BitVec 32 := 512#32
  let v2557 : BitVec 32 := Scalar.muli v2556 c512_i32_3446
  v2557
def k0_dev95 (d0 : Dev nD) : Nat :=
  let c0_i32_3513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3512 : BitVec 32 := 1#32
  let v2601 : BitVec 32 := Scalar.muli v13 c1_i32_3512
  let v2602 : BitVec 32 := Scalar.addi c0_i32_3513 v2601
  v2602.toNat
def k0_dev96 (d0 : Dev nD) : Nat :=
  let c0_i32_3526 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3525 : BitVec 32 := 1#32
  let v2605 : BitVec 32 := Scalar.muli v24 c1_i32_3525
  let v2606 : BitVec 32 := Scalar.addi c0_i32_3526 v2605
  v2606.toNat
def k0_dev97 (d0 : Dev nD) : Nat :=
  let c0_i32_3576 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3575 : BitVec 32 := 1#32
  let v2642 : BitVec 32 := Scalar.muli v24 c1_i32_3575
  let v2643 : BitVec 32 := Scalar.addi c0_i32_3576 v2642
  v2643.toNat
def k0_dev98 (d0 : Dev nD) : Nat :=
  let c0_i32_3589 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3588 : BitVec 32 := 1#32
  let v2646 : BitVec 32 := Scalar.muli v13 c1_i32_3588
  let v2647 : BitVec 32 := Scalar.addi c0_i32_3589 v2646
  v2647.toNat
def k0_dev99 (d0 : Dev nD) : Nat :=
  let c0_i32_3639 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3638 : BitVec 32 := 1#32
  let v2683 : BitVec 32 := Scalar.muli v13 c1_i32_3638
  let v2684 : BitVec 32 := Scalar.addi c0_i32_3639 v2683
  v2684.toNat
def k0_dev100 (d0 : Dev nD) : Nat :=
  let c0_i32_3652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3651 : BitVec 32 := 1#32
  let v2687 : BitVec 32 := Scalar.muli v24 c1_i32_3651
  let v2688 : BitVec 32 := Scalar.addi c0_i32_3652 v2687
  v2688.toNat
def k0_dev101 (d0 : Dev nD) : Nat :=
  let c0_i32_3702 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3701 : BitVec 32 := 1#32
  let v2724 : BitVec 32 := Scalar.muli v24 c1_i32_3701
  let v2725 : BitVec 32 := Scalar.addi c0_i32_3702 v2724
  v2725.toNat
def k0_dev102 (d0 : Dev nD) : Nat :=
  let c0_i32_3715 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3714 : BitVec 32 := 1#32
  let v2728 : BitVec 32 := Scalar.muli v13 c1_i32_3714
  let v2729 : BitVec 32 := Scalar.addi c0_i32_3715 v2728
  v2729.toNat
def k0_mult31 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v2738 : BitVec 32 := Scalar.subi v2 c15_i32
  let c1_i32_3720 : BitVec 32 := 1#32
  let v2739 : BitVec 32 := Scalar.subi v2738 c1_i32_3720
  let c16_i32_3721 : BitVec 32 := 16#32
  let c0_i32_3722 : BitVec 32 := 0#32
  let v2740 : BitVec 1 := Scalar.cmpi .eq c16_i32_3721 c0_i32_3722
  let c1_i32_3723 : BitVec 32 := 1#32
  let v2741 : BitVec 32 := Scalar.select v2740 c1_i32_3723 c16_i32_3721
  let v2742 : BitVec 32 := Scalar.remsi v2739 v2741
  let c0_i32_3725 : BitVec 32 := 0#32
  let v2744 : BitVec 1 := Scalar.cmpi .slt v2742 c0_i32_3725
  let c0_i32_3726 : BitVec 32 := 0#32
  let v2745 : BitVec 1 := Scalar.cmpi .slt v2741 c0_i32_3726
  let v2746 : BitVec 1 := Scalar.xori v2744 v2745
  let c0_i32_3724 : BitVec 32 := 0#32
  let v2743 : BitVec 1 := Scalar.cmpi .ne v2742 c0_i32_3724
  let v2747 : BitVec 1 := Scalar.andi v2746 v2743
  let v2748 : BitVec 32 := Scalar.addi v2742 v2741
  let v2749 : BitVec 32 := Scalar.select v2747 v2748 v2742
  let c512_i32_3727 : BitVec 32 := 512#32
  let v2750 : BitVec 32 := Scalar.muli v2749 c512_i32_3727
  v2750
def k0_mult32 (d0 : Dev nD) : BitVec 32 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_3735 : BitVec 32 := 15#32
  let v2757 : BitVec 32 := Scalar.addi v2 c15_i32_3735
  let c1_i32_3736 : BitVec 32 := 1#32
  let v2758 : BitVec 32 := Scalar.addi v2757 c1_i32_3736
  let c16_i32_3737 : BitVec 32 := 16#32
  let c0_i32_3738 : BitVec 32 := 0#32
  let v2759 : BitVec 1 := Scalar.cmpi .eq c16_i32_3737 c0_i32_3738
  let c1_i32_3739 : BitVec 32 := 1#32
  let v2760 : BitVec 32 := Scalar.select v2759 c1_i32_3739 c16_i32_3737
  let v2761 : BitVec 32 := Scalar.remsi v2758 v2760
  let c0_i32_3741 : BitVec 32 := 0#32
  let v2763 : BitVec 1 := Scalar.cmpi .slt v2761 c0_i32_3741
  let c0_i32_3742 : BitVec 32 := 0#32
  let v2764 : BitVec 1 := Scalar.cmpi .slt v2760 c0_i32_3742
  let v2765 : BitVec 1 := Scalar.xori v2763 v2764
  let c0_i32_3740 : BitVec 32 := 0#32
  let v2762 : BitVec 1 := Scalar.cmpi .ne v2761 c0_i32_3740
  let v2766 : BitVec 1 := Scalar.andi v2765 v2762
  let v2767 : BitVec 32 := Scalar.addi v2761 v2760
  let v2768 : BitVec 32 := Scalar.select v2766 v2767 v2761
  let c512_i32_3743 : BitVec 32 := 512#32
  let v2769 : BitVec 32 := Scalar.muli v2768 c512_i32_3743
  v2769
def k0_dev103 (d0 : Dev nD) : Nat :=
  let c0_i32_3810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3809 : BitVec 32 := 1#32
  let v2813 : BitVec 32 := Scalar.muli v13 c1_i32_3809
  let v2814 : BitVec 32 := Scalar.addi c0_i32_3810 v2813
  v2814.toNat
def k0_dev104 (d0 : Dev nD) : Nat :=
  let c0_i32_3823 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3822 : BitVec 32 := 1#32
  let v2817 : BitVec 32 := Scalar.muli v24 c1_i32_3822
  let v2818 : BitVec 32 := Scalar.addi c0_i32_3823 v2817
  v2818.toNat
def k0_dev105 (d0 : Dev nD) : Nat :=
  let c0_i32_3873 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3872 : BitVec 32 := 1#32
  let v2854 : BitVec 32 := Scalar.muli v24 c1_i32_3872
  let v2855 : BitVec 32 := Scalar.addi c0_i32_3873 v2854
  v2855.toNat
def k0_dev106 (d0 : Dev nD) : Nat :=
  let c0_i32_3886 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3885 : BitVec 32 := 1#32
  let v2858 : BitVec 32 := Scalar.muli v13 c1_i32_3885
  let v2859 : BitVec 32 := Scalar.addi c0_i32_3886 v2858
  v2859.toNat
def k0_dev107 (d0 : Dev nD) : Nat :=
  let c0_i32_3936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_3935 : BitVec 32 := 1#32
  let v2895 : BitVec 32 := Scalar.muli v13 c1_i32_3935
  let v2896 : BitVec 32 := Scalar.addi c0_i32_3936 v2895
  v2896.toNat
def k0_dev108 (d0 : Dev nD) : Nat :=
  let c0_i32_3949 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3948 : BitVec 32 := 1#32
  let v2899 : BitVec 32 := Scalar.muli v24 c1_i32_3948
  let v2900 : BitVec 32 := Scalar.addi c0_i32_3949 v2899
  v2900.toNat
def k0_dev109 (d0 : Dev nD) : Nat :=
  let c0_i32_3999 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_3998 : BitVec 32 := 1#32
  let v2936 : BitVec 32 := Scalar.muli v24 c1_i32_3998
  let v2937 : BitVec 32 := Scalar.addi c0_i32_3999 v2936
  v2937.toNat
def k0_dev110 (d0 : Dev nD) : Nat :=
  let c0_i32_4012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4011 : BitVec 32 := 1#32
  let v2940 : BitVec 32 := Scalar.muli v13 c1_i32_4011
  let v2941 : BitVec 32 := Scalar.addi c0_i32_4012 v2940
  v2941.toNat
def k0_dev111 (d0 : Dev nD) : Nat :=
  let c0_i32_4085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4084 : BitVec 32 := 1#32
  let v2987 : BitVec 32 := Scalar.muli v24 c1_i32_4084
  let v2988 : BitVec 32 := Scalar.addi c0_i32_4085 v2987
  v2988.toNat
def k0_dev112 (d0 : Dev nD) : Nat :=
  let c0_i32_4144 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4143 : BitVec 32 := 1#32
  let v3024 : BitVec 32 := Scalar.muli v13 c1_i32_4143
  let v3025 : BitVec 32 := Scalar.addi c0_i32_4144 v3024
  v3025.toNat
def k0_dev113 (d0 : Dev nD) : Nat :=
  let c0_i32_4203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_6 : BitVec 32 := 1#32
  let v14 : BitVec 32 := Scalar.addi v2 c1_i32_6
  let c16_i32_7 : BitVec 32 := 16#32
  let c0_i32_8 : BitVec 32 := 0#32
  let v15 : BitVec 1 := Scalar.cmpi .eq c16_i32_7 c0_i32_8
  let c1_i32_9 : BitVec 32 := 1#32
  let v16 : BitVec 32 := Scalar.select v15 c1_i32_9 c16_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_4202 : BitVec 32 := 1#32
  let v3061 : BitVec 32 := Scalar.muli v24 c1_i32_4202
  let v3062 : BitVec 32 := Scalar.addi c0_i32_4203 v3061
  v3062.toNat
def k0_dev114 (d0 : Dev nD) : Nat :=
  let c0_i32_4262 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.subi v2 c1_i32_0
  let c16_i32_1 : BitVec 32 := 16#32
  let c0_i32 : BitVec 32 := 0#32
  let v4 : BitVec 1 := Scalar.cmpi .eq c16_i32_1 c0_i32
  let c1_i32_2 : BitVec 32 := 1#32
  let v5 : BitVec 32 := Scalar.select v4 c1_i32_2 c16_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_4261 : BitVec 32 := 1#32
  let v3098 : BitVec 32 := Scalar.muli v13 c1_i32_4261
  let v3099 : BitVec 32 := Scalar.addi c0_i32_4262 v3098
  v3099.toNat
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Model.lean ====
/- The kernel body as a program in two parameters: a ring (one of four) and a step (one of sixteen).

The printed body is a straight line of some eight thousand statements. Here the same operations are written once
per kind of step, for every ring and step, and `body_eq` says that the printed body is their sequence. -/
module

public import proofs.«01_k».proof.Proof.Gen.KernelIdeal
public import proofs.«01_k».proof.Proof.Gen.KernelIdeal.Points
public import proofs.«01_k».proof.Proof.Gen.KernelIdeal.Skeleton
public import Idealize.ShloMosaic.Lib.Pipeline.Regions

@[expose] public section

noncomputable section

namespace Cert.KernelIdeal.Ring

open Idealize.ShloMosaic Idealize.SL.Sem Cert.KernelIdeal.Gen

variable {F : FTy → Type} [FloatOps F]

variable (F) in
/-- A program of the kernel. -/
abbrev KProg : Type 1 := Prog (TpuEff nD τ sig (Elt F) Λ₀ .tc) PUnit

/-! ## Rings, slots, devices -/

/-- Rings 0 and 1 send to the right, rings 2 and 3 to the left. -/
def leftward (r : Fin 4) : Bool := decide (2 ≤ r.val)

/-- The row of the staging buffer that a ring reads. -/
def row (r : Fin 4) : Fin 2 := ⟨r.val / 2, by omega⟩

/-- The send and receive slot of a step. -/
def par (s : ℕ) : Fin 2 := ⟨s % 2, Nat.mod_lt _ (by omega)⟩

/-- The staging slot of a step. -/
def tri (s : ℕ) : Fin 3 := ⟨s % 3, Nat.mod_lt _ (by omega)⟩

/-- The left neighbour, as the kernel computes it. -/
def lft (d : Dev nD) : Dev nD := ⟨k0_dev1 d, k0_dev1_lt d⟩
/-- The right neighbour, as the kernel computes it. -/
def rgt (d : Dev nD) : Dev nD := ⟨k0_dev2 d, k0_dev2_lt d⟩

/-- The device a ring sends to. -/
def down (r : Fin 4) (d : Dev nD) : Dev nD := ⟨cond (leftward r) (k0_dev1 d) (k0_dev2 d), by
  cases leftward r; exacts [k0_dev2_lt d, k0_dev1_lt d]⟩
/-- The device a ring receives from. -/
def up (r : Fin 4) (d : Dev nD) : Dev nD := ⟨cond (leftward r) (k0_dev2 d) (k0_dev1 d), by
  cases leftward r; exacts [k0_dev1_lt d, k0_dev2_lt d]⟩

/-- Where a step's row block of `x` starts, for the rings that send to the right (0) or to the left (1). -/
def xoff (e : Fin 2) (d : Dev nD) (s : Fin 16) : Fin 2 → ℕ :=
  cond (e.val == 0) (k0_off1 d (BitVec.ofNat 32 s.val)) (k0_off2 d (BitVec.ofNat 32 s.val))

theorem xoff_inb (e : Fin 2) (d : Dev nD) (s : Fin 16) : ∀ a, xoff e d s a + S512x512.size a ≤ S8192x512.size a := by
  unfold xoff; cases (e.val == 0); exacts [k0_off2_inb d s, k0_off1_inb d s]

/-! ## The pieces of the buffers and of the semaphore arrays -/

theorem stage_inb (e : Fin 2) (j : Fin 3) : ∀ a, (![e.val, j.val, 0, 0] : Fin 4 → ℕ) a + S1x1x512x512.size a ≤ S2x3x512x512.size a := by
  revert e j; decide
theorem ssem_inb (e : Fin 2) (j : Fin 3) : ∀ a, (![e.val, j.val] : Fin 2 → ℕ) a + S1x1.size a ≤ S2x3.size a := by
  revert e j; decide
theorem buf_inb (r : Fin 4) (b : Fin 2) : ∀ a, (![r.val, b.val, 0, 0] : Fin 4 → ℕ) a + S1x1x512x1024.size a ≤ S4x2x512x1024.size a := by
  revert r b; decide
theorem bsem_inb (r : Fin 4) (b : Fin 2) : ∀ a, (![r.val, b.val] : Fin 2 → ℕ) a + S1x1.size a ≤ S4x2.size a := by
  revert r b; decide
theorem csem_inb (r : Fin 4) : ∀ a, (![r.val] : Fin 1 → ℕ) a + S1.size a ≤ S4.size a := by
  revert r; decide
theorem col_inb (r : Fin 4) : ∀ a, (![0, r.val * 1024] : Fin 2 → ℕ) a + S512x1024.size a ≤ S512x4096.size a := by
  revert r; decide

/-- One staging slot, as a rectangle of the staging buffer. -/
def stageRect (e : Fin 2) (j : Fin 3) : Rect S2x3x512x512 := Rect.unit ![e.val, j.val, 0, 0] S1x1x512x512.size (stage_inb e j)
/-- One slot of a ring, as a rectangle of the send or the receive buffer. -/
def bufRect (r : Fin 4) (b : Fin 2) : Rect S4x2x512x1024 := Rect.unit ![r.val, b.val, 0, 0] S1x1x512x1024.size (buf_inb r b)
/-- A ring's columns. -/
def colRect (r : Fin 4) : Rect S512x4096 := Rect.unit ![0, r.val * 1024] S512x1024.size (col_inb r)

/-- One staging slot. -/
def stageM (x : Memref sig .tc .vmem S2x3x512x512 .f32) (e : Fin 2) (j : Fin 3) : Memref sig .tc .vmem S512x512 .f32 :=
  (x.slice (Rect.unit ![e.val, j.val, 0, 0] S1x1x512x512.size (stage_inb e j)) (fun _ => rfl)).squeeze S512x512 squeezes_S1x1x512x512_S512x512
/-- One slot of a ring. -/
def bufM (x : Memref sig .tc .vmem S4x2x512x1024 .f32) (r : Fin 4) (b : Fin 2) : Memref sig .tc .vmem S512x1024 .f32 :=
  (x.slice (Rect.unit ![r.val, b.val, 0, 0] S1x1x512x1024.size (buf_inb r b)) (fun _ => rfl)).squeeze S512x1024 squeezes_S1x1x512x1024_S512x1024
/-- A step's row block of `x`. -/
def xM (x : Memref sig .tc .hbm S8192x512 .f32) (e : Fin 2) (d : Dev nD) (s : Fin 16) : Memref sig .tc .hbm S512x512 .f32 :=
  x.slice (Rect.unit (s := S8192x512) (xoff e d s) S512x512.size (xoff_inb e d s)) (fun _ => rfl)
/-- A ring's columns of the result. -/
def outM (x : Memref sig .tc .hbm S512x4096 .f32) (r : Fin 4) : Memref sig .tc .hbm S512x1024 .f32 :=
  x.slice (Rect.unit (s := S512x4096) ![0, r.val * 1024] S512x1024.size (col_inb r)) (fun _ => rfl)

/-- The semaphore of a staging slot. -/
def stageS (x : DmaSems sig S2x3) (e : Fin 2) (j : Fin 3) : DmaSem sig :=
  ((x.slice (Rect.unit (s := S2x3) ![e.val, j.val] S1x1.size (ssem_inb e j))).squeeze S_ squeezes_S1x1_S_).sem
/-- The semaphore of a send or of a receive slot. -/
def bufS (x : DmaSems sig S4x2) (r : Fin 4) (b : Fin 2) : DmaSem sig :=
  ((x.slice (Rect.unit (s := S4x2) ![r.val, b.val] S1x1.size (bsem_inb r b))).squeeze S_ squeezes_S1x1_S_).sem
/-- The credit semaphore of a ring. -/
def credS (x : Sems sig S4) (r : Fin 4) : Sem sig :=
  ((x.slice (Rect.unit (s := S4) ![r.val] S1.size (csem_inb r))).squeeze S_ squeezes_S1_S_).sem
/-- The barrier semaphore. -/
def barS : Sem sig := (SemArray.scalar (sig.barrier 0 rfl) : Sems sig S_).sem

/-! ## What a step computes -/

/-- The product of a staged row block with a ring's columns of `w`. -/
def prod (a : Vec F S1x1x512x512 .f32) (b : Vec F S512x1024 .f32) : FVec F S512x1024 .f32 :=
  matmul dot_S512x512_S512x1024_S512x1024_1_0_0_1_n_n none (shapeCast S512x512 a shapeCasts_S1x1x512x512_S512x512)
    (shapeCast S512x1024 b shapeCasts_S512x1024_S512x1024) (constant S512x1024 .f32 0x00000000#32)

/-- A slot's words from a block. -/
def box (v : FVec F S512x1024 .f32) : FVec F S1x1x512x1024 .f32 := shapeCast S1x1x512x1024 v shapeCasts_S512x1024_S1x1x512x1024

/-- The received partial sum plus the own product. -/
def plus (a : Vec F S1x1x512x1024 .f32) (p : FVec F S512x1024 .f32) : FVec F S512x1024 .f32 :=
  addf (shapeCast S512x1024 a shapeCasts_S1x1x512x1024_S512x1024) p

/-- The epilogue: `y · (1 / (1 + exp (0 − min 60 (max (−60) y))))`. -/
def epi (y : FVec F S512x1024 .f32) : FVec F S512x1024 .f32 :=
  mulf y (divf (broadcast S512x1024 (Scalar.ofBits .f32 0x3F800000#32))
    (addf (broadcast S512x1024 (Scalar.ofBits .f32 0x3F800000#32))
      (exp (subf (broadcast S512x1024 (Scalar.ofBits .f32 0x00000000#32))
        (minimumf (broadcast S512x1024 (Scalar.ofBits .f32 0x42700000#32))
          (maximumf (broadcast S512x1024 (Scalar.ofBits .f32 0xC2700000#32)) y))))))

/-! ## The steps -/

section Steps

variable (arg0 : Memref sig .tc .hbm S8192x512 .f32) (arg1 : Memref sig .tc .vmem S512x4096 .f32) (arg2 : Memref sig .tc .hbm S512x4096 .f32)
  (arg3 : Memref sig .tc .vmem S2x3x512x512 .f32) (arg4 arg5 : Memref sig .tc .vmem S4x2x512x1024 .f32)
  (arg6 : DmaSems sig S2x3) (arg7 arg8 : DmaSems sig S4x2) (arg9 : Sems sig S4)

/-- Start the copy of step `s`'s row block for one direction, then go on with `k`. -/
def issue1 (d : Dev nD) (s : Fin 16) (e : Fin 2) (k : KProg F) : KProg F :=
  .op (.enqueueDma (xM arg0 e d s) (.here (stageM arg3 e (tri s.val))) (.dma (stageS arg6 e (tri s.val))) (View.wordExact_bits rfl)
    ((View.wordExact_bits rfl).reshape _ _) ⟨Or.inl rfl, trivial⟩) fun _ => k

/-- Wait for the copy of step `s`'s row block for one direction, then go on with `k`. -/
def await1 (d : Dev nD) (s : Fin 16) (e : Fin 2) (k : KProg F) : KProg F :=
  .op (.waitDma2 (stageS arg6 e (tri s.val)) (xM arg0 e d s) (stageM arg3 e (tri s.val)) (View.wordExact_bits rfl)
    ((View.wordExact_bits rfl).reshape _ _)) fun _ => k

/-- Read step `s`'s row block and the ring's columns of `w`, then go on with `k` of their product. -/
def part (r : Fin 4) (s : ℕ) (k : FVec F S512x1024 .f32 → KProg F) : KProg F :=
  .op (.load arg3 (stageRect (row r) (tri s)).toLoadRect (View.loadsAt_vmem h_S1x1x512x512)) fun a =>
    .op (.load arg1 (colRect r).toLoadRect (View.loadsAt_vmem h_S512x1024)) fun b => k (prod a b)

/-- Wait until the slot sent at step `s` has left, then go on with `k`. -/
def sent (r : Fin 4) (s : ℕ) (k : KProg F) : KProg F :=
  .op (.waitDma2 (bufS arg7 r (par s)) (bufM arg5 r (par s)) (bufM arg4 r (par s)) ((View.wordExact_bits rfl).reshape _ _)
    ((View.wordExact_bits rfl).reshape _ _)) fun _ => k

/-- Wait for the slot the upstream device sent at its step `s`, read it, then go on with `k` of its words. -/
def recvd (r : Fin 4) (s : ℕ) (k : Vec F S1x1x512x1024 .f32 → KProg F) : KProg F :=
  .op (.waitDma2 (bufS arg8 r (par s)) (bufM arg4 r (par s)) (bufM arg5 r (par s)) ((View.wordExact_bits rfl).reshape _ _)
    ((View.wordExact_bits rfl).reshape _ _)) fun _ =>
    .op (.load arg5 (bufRect r (par s)).toLoadRect (View.loadsAt_vmem h_S1x1x512x1024)) k

/-- Write `v` into the send slot of step `s` (its old words are read first), then go on with `k`. -/
def put (r : Fin 4) (s : ℕ) (v : FVec F S1x1x512x1024 .f32) (k : KProg F) : KProg F :=
  .op (.load arg4 (bufRect r (par s)).toLoadRect (View.loadsAt_vmem h_S1x1x512x1024)) fun _ =>
    .op (.store arg4 (bufRect r (par s)) v Finset.univ (View.stores_vmem_bits_univ h_S1x1x512x1024 rfl) (.inl rfl)) fun _ => k

/-- Start the remote copy of step `s`, then go on with `k`. -/
def send (d : Dev nD) (r : Fin 4) (s : ℕ) (k : KProg F) : KProg F :=
  .op (.enqueueDma (bufM arg4 r (par s)) (.remote (Dev.tc (down r d)) (bufM arg5 r (par s)) (.dma (bufS arg7 r (par s)))) (.dma (bufS arg8 r (par s)))
    ((View.wordExact_bits rfl).reshape _ _) ((View.wordExact_bits rfl).reshape _ _) ⟨⟨rfl, Or.inl rfl⟩, trivial⟩) fun _ => k

/-- Give the upstream device a credit, unless it sends no more into the slot, then go on with `k`. -/
def give (d : Dev nD) (r : Fin 4) (s : ℕ) (k : KProg F) : KProg F :=
  cond (decide (s ≤ 13)) (.op (.semSignal (up r d, .tc) (credS arg9 r) (1#32).toInt) fun _ => k) k

/-- From step 2 on: wait for a credit, then go on with `k`. -/
def take (r : Fin 4) (s : ℕ) (k : KProg F) : KProg F :=
  cond (decide (2 ≤ s)) (.op (.semWait (credS arg9 r) (1#32).toInt) fun _ => k) k

/-- From step 2 on: wait until the slot of step `s - 2` has left, then go on with `k`. -/
def sent2 (r : Fin 4) (s : ℕ) (k : KProg F) : KProg F :=
  cond (decide (2 ≤ s)) (sent arg4 arg5 arg7 r s k) k

/-- A ring's step 0. -/
def ring0 (d : Dev nD) (r : Fin 4) (k : KProg F) : KProg F :=
  part arg1 arg3 r 0 fun p => put arg4 r 0 (box p) (send arg4 arg5 arg7 arg8 d r 0 k)

/-- A ring's step `s`, of 1 to 14. -/
def ringStep (d : Dev nD) (s : ℕ) (r : Fin 4) (k : KProg F) : KProg F :=
  part arg1 arg3 r s fun p => sent2 arg4 arg5 arg7 r s <| recvd arg4 arg5 arg8 r (s - 1) fun v => put arg4 r s (box (plus v p)) <|
    give arg9 d r s <| take arg9 r s <| send arg4 arg5 arg7 arg8 d r s k

/-- Start the copy of a ring's result columns, then go on with `k`. -/
def outIssue (r : Fin 4) (k : KProg F) : KProg F :=
  .op (.enqueueDma (bufM arg4 r (par 15)) (.here (outM arg2 r)) (.dma (stageS arg6 (row r) (tri (r.val % 2)))) ((View.wordExact_bits rfl).reshape _ _)
    (View.wordExact_bits rfl) ⟨Or.inl rfl, trivial⟩) fun _ => k

/-- Wait for the copy of a ring's result columns, then go on with `k`. -/
def outAwait (r : Fin 4) (k : KProg F) : KProg F :=
  .op (.waitDma2 (stageS arg6 (row r) (tri (r.val % 2))) (bufM arg4 r (par 15)) (outM arg2 r) ((View.wordExact_bits rfl).reshape _ _)
    (View.wordExact_bits rfl)) fun _ => k

/-- A ring's last step. -/
def ringEnd (r : Fin 4) (k : KProg F) : KProg F :=
  part arg1 arg3 r 15 fun p => sent arg4 arg5 arg7 r 13 <| sent arg4 arg5 arg7 r 14 <| recvd arg4 arg5 arg8 r 14 fun v =>
    put arg4 r 15 (box (epi (plus v p))) <| outIssue arg2 arg4 arg6 r k

/-- The four rings in the order in which a step handles them. -/
def rings (f : Fin 4 → KProg F → KProg F) (k : KProg F) : KProg F := f 0 (f 2 (f 1 (f 3 k)))

/-- Start both directions' copies of step `s`'s row blocks. -/
def issue (d : Dev nD) (s : Fin 16) (k : KProg F) : KProg F :=
  issue1 arg0 arg3 arg6 d s 0 (issue1 arg0 arg3 arg6 d s 1 k)
/-- Wait for both. -/
def await (d : Dev nD) (s : Fin 16) (k : KProg F) : KProg F :=
  await1 arg0 arg3 arg6 d s 0 (await1 arg0 arg3 arg6 d s 1 k)

/-- Step `s`, of 1 to 14, on all rings. -/
def step (d : Dev nD) (s : Fin 16) (k : KProg F) : KProg F :=
  let k' := await arg0 arg3 arg6 d s <| rings (ringStep arg1 arg3 arg4 arg5 arg7 arg8 arg9 d s.val) k
  if h : s.val + 2 < 16 then issue arg0 arg3 arg6 d ⟨s.val + 2, h⟩ k' else k'

/-- Steps `s`, `s + 1`, … : `n` of them. -/
def steps (d : Dev nD) : (n : ℕ) → (s : ℕ) → s + n ≤ 16 → KProg F → KProg F
  | 0, _, _, k => k
  | n + 1, s, h, k => step arg0 arg1 arg3 arg4 arg5 arg6 arg7 arg8 arg9 d ⟨s, by omega⟩ (steps d n (s + 1) (by omega) k)

/-- The whole body. -/
def body : KProg F :=
  .op .deviceId fun d =>
  .op (.semSignal (lft d, .tc) barS (1#32).toInt) fun _ =>
  .op (.semSignal (rgt d, .tc) barS (1#32).toInt) fun _ =>
  .op (.semWait barS (2#32).toInt) fun _ =>
  issue arg0 arg3 arg6 d 0 <| issue arg0 arg3 arg6 d 1 <| issue arg0 arg3 arg6 d 2 <| await arg0 arg3 arg6 d 0 <|
  rings (ring0 arg1 arg3 arg4 arg5 arg7 arg8 d) <|
  steps arg0 arg1 arg3 arg4 arg5 arg6 arg7 arg8 arg9 d 14 1 (by omega) <|
  await arg0 arg3 arg6 d 15 <|
  rings (ringEnd arg1 arg2 arg3 arg4 arg5 arg6 arg7 arg8) <|
  rings (outAwait arg2 arg4 arg6) <|
  .ret ⟨⟩

end Steps

set_option maxRecDepth 1000000 in
/-- The printed body is the sequence of the steps. -/
theorem body_eq (arg0 : Memref sig .tc .hbm S8192x512 .f32) (h0 : arg0.IsWhole) (arg1 : Memref sig .tc .vmem S512x4096 .f32) (h1 : arg1.IsWhole)
    (arg2 : Memref sig .tc .hbm S512x4096 .f32) (h2 : arg2.IsWhole) (arg3 : Memref sig .tc .vmem S2x3x512x512 .f32) (h3 : arg3.IsWhole)
    (arg4 : Memref sig .tc .vmem S4x2x512x1024 .f32) (h4 : arg4.IsWhole) (arg5 : Memref sig .tc .vmem S4x2x512x1024 .f32) (h5 : arg5.IsWhole)
    (arg6 : DmaSems sig S2x3) (arg7 arg8 : DmaSems sig S4x2) (arg9 : Sems sig S4) :
    cc0_body (F := F) arg0 h0 arg1 h1 arg2 h2 arg3 h3 arg4 h4 arg5 h5 arg6 arg7 arg8 arg9
      = body arg0 arg1 arg2 arg3 arg4 arg5 arg6 arg7 arg8 arg9 := by
  chain_rfl

end Cert.KernelIdeal.Ring

end
-- ==== Proof.Cells.lean ====
/- The kernel's semaphore cells, its buffers' pieces and the values they come to hold. -/
module

public import proofs.«01_k».proof.Proof.Model
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Release
public import Idealize.ShloMosaic.Lib.Tactic

@[expose] public section

noncomputable section

namespace Cert.KernelIdeal.Ring

open Idealize.ShloMosaic Idealize.SL.Sem Cert.KernelIdeal.Gen
open Idealize.ShloMosaic.TcCoe

variable {F : FTy → Type} [FloatOps F]

/-! ## The ring of devices -/

/-- A ring's next device sends back to the one before it. -/
theorem up_down (r : Fin 4) (c : Dev nD) : up r (down r c) = c := by revert r c; decide
theorem down_up (r : Fin 4) (c : Dev nD) : down r (up r c) = c := by revert r c; decide
theorem lft_rgt (c : Dev nD) : lft (rgt c) = c := by revert c; decide
theorem rgt_lft (c : Dev nD) : rgt (lft c) = c := by revert c; decide
/-- Rings 0 and 1 send right, rings 2 and 3 left. -/
theorem down_eq (r : Fin 4) (c : Dev nD) : down r c = cond (leftward r) (lft c) (rgt c) := by revert r c; decide
theorem up_eq (r : Fin 4) (c : Dev nD) : up r c = cond (leftward r) (rgt c) (lft c) := by revert r c; decide

/-- The devices along a ring. -/
def ringEquiv (r : Fin 4) : Dev nD ≃ Dev nD := ⟨down r, up r, up_down r, down_up r⟩
/-- The devices from left to right. -/
def rightEquiv : Dev nD ≃ Dev nD := ⟨rgt, lft, lft_rgt, rgt_lft⟩

/-! ## The buffers -/

abbrev A0 : Memref sig .tc .hbm S8192x512 .f32 := Memref.whole main_arg0
abbrev W1 : Memref sig .tc .vmem S512x4096 .f32 := Memref.whole cc0_stg0_0
abbrev O2 : Memref sig .tc .hbm S512x4096 .f32 := Memref.whole main_v1
abbrev X3 : Memref sig .tc .vmem S2x3x512x512 .f32 := Memref.whole cc0_scratch0
abbrev S4b : Memref sig .tc .vmem S4x2x512x1024 .f32 := Memref.whole cc0_scratch1
abbrev R5 : Memref sig .tc .vmem S4x2x512x1024 .f32 := Memref.whole cc0_scratch2

/-! ## The cells -/

/-- The kinds of a device's cells: the barrier, a ring's credit, a staging slot, a send slot, a receive slot. -/
inductive Cx : Type where
  | bar
  | crd (r : Fin 4)
  | stg (e : Fin 2) (j : Fin 3)
  | snd (r : Fin 4) (b : Fin 2)
  | rcv (r : Fin 4) (b : Fin 2)
  deriving DecidableEq

/-- The kinds as a sum. -/
def Cx.equiv : Cx ≃ Unit ⊕ Fin 4 ⊕ (Fin 2 × Fin 3) ⊕ (Fin 4 × Fin 2) ⊕ (Fin 4 × Fin 2) where
  toFun
    | .bar => .inl ()
    | .crd r => .inr (.inl r)
    | .stg e j => .inr (.inr (.inl (e, j)))
    | .snd r b => .inr (.inr (.inr (.inl (r, b))))
    | .rcv r b => .inr (.inr (.inr (.inr (r, b))))
  invFun
    | .inl _ => .bar
    | .inr (.inl r) => .crd r
    | .inr (.inr (.inl x)) => .stg x.1 x.2
    | .inr (.inr (.inr (.inl x))) => .snd x.1 x.2
    | .inr (.inr (.inr (.inr x))) => .rcv x.1 x.2
  left_inv x := by cases x <;> rfl
  right_inv x := by rcases x with _ | _ | _ | _ | _ <;> rfl

instance : Fintype Cx := Fintype.ofEquiv _ Cx.equiv.symm

/-- A cell's semaphore. -/
def semOf : Cx → SemLoc sig
  | .bar => .reg barS
  | .crd r => .reg (credS cc0_scratch6 r)
  | .stg e j => .dma (stageS cc0_scratch3 e j)
  | .snd r b => .dma (bufS cc0_scratch4 r b)
  | .rcv r b => .dma (bufS cc0_scratch5 r b)

/-- The cell kind of a semaphore. -/
def cxOf : SemLoc sig → Option Cx
  | .reg s => if s.val = 4 then some .bar else if h : s.val < 4 then some (.crd ⟨s.val, h⟩) else none
  | .dma s =>
    if h : 1 ≤ s.val ∧ s.val < 7 then some (.stg ⟨(s.val - 1) / 3, by omega⟩ ⟨(s.val - 1) % 3, by omega⟩)
    else if h : 7 ≤ s.val ∧ s.val < 15 then some (.snd ⟨(s.val - 7) / 2, by omega⟩ ⟨(s.val - 7) % 2, by omega⟩)
    else if h : 15 ≤ s.val ∧ s.val < 23 then some (.rcv ⟨(s.val - 15) / 2, by omega⟩ ⟨(s.val - 15) % 2, by omega⟩)
    else none

set_option maxRecDepth 100000 in
/-- A cell's semaphore names the cell. -/
theorem cxOf_semOf (x : Cx) : cxOf (semOf x) = some x := by
  cases x with
  | bar => decide
  | crd r => revert r; decide
  | stg e j => revert e j; decide
  | snd r b => revert r b; decide
  | rcv r b => revert r b; decide

theorem semOf_injective : Function.Injective semOf := fun x y h => by
  have := congrArg cxOf h; rw [cxOf_semOf, cxOf_semOf] at this; exact Option.some.inj this

/-- A device's cell. -/
abbrev cell (c : Dev nD) (x : Cx) : GSem nD τ sig := ((c : Thread nD τ), semOf x)

theorem cell_inj {c c' : Dev nD} {x x' : Cx} (h : cell c x = cell c' x') : c = c' ∧ x = x' :=
  ⟨congrArg (fun g : GSem nD τ sig => g.1.1) h, semOf_injective (congrArg Prod.snd h)⟩

theorem amt1 (e : Fin 2) (j : Fin 3) : (stageM X3 e j).view.dmaCredit = (stageM X3 0 0).view.dmaCredit := rfl
theorem amt2 (r : Fin 4) (b : Fin 2) : (bufM R5 r b).view.dmaCredit = (bufM R5 0 0).view.dmaCredit := rfl
theorem amt3 (r : Fin 4) (b : Fin 2) : (bufM S4b r b).view.dmaCredit = (bufM R5 0 0).view.dmaCredit := rfl
theorem amt4 (r : Fin 4)  : (outM O2 r).view.dmaCredit = (outM O2 0).view.dmaCredit := rfl

end Cert.KernelIdeal.Ring

end
-- ==== Proof.Sched.lean ====
/- The schedule: what every cell's rounds are paid with, and what the copies move. -/
module

public import proofs.«01_k».proof.Proof.Cells

@[expose] public section

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

/-! ## The resource algebra -/

/-- A receive slot's name: its device, its ring, its number. -/
abbrev Key : Type := Dev nD × Fin 4 × Fin 2

abbrev UB : Type := URounds (GSem nD τ sig) ℕ
abbrev UQ : Type := Release.USlots Key
abbrev UU : Type := UR sig nD τ × (UB × UQ)

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × UQ)).trans embR
abbrev EQ : Emb UQ (MT nD τ sig ℕ (Elt F) ℕ UU ℕ) := (Emb.inr : Emb UQ (UB × UQ)).trans embR

/-! ## The values -/

variable (m : (ℓ : Loc nD τ sig) → Buf (Elt F) ℓ)

/-- The device's rows of `w`, as staged. -/
def wstg (c : Dev nD) : (cc0_stg0_0 : Ref sig .tc).ty.Contents (Elt F) :=
  (win0_0.blk (0 : Fin 1)).view.read (Elt F) (m ((c : Thread nD τ).loc main_arg1))

/-- A ring's columns of them. -/
def wcol (c : Dev nD) (r : Fin 4) : Vec F S512x1024 .f32 := W1.view.readAt (Elt F) (colRect r).toLoadRect (wstg m c)

/-- The row block of `x` that a step stages. -/
def xv (c : Dev nD) (e : Fin 2) (s : Fin 16) : FVec F S512x512 .f32 :=
  (xM A0 e c s).view.read (Elt F) (m ((c : Thread nD τ).loc main_arg0))

/-- The product of a row block and a ring's columns. -/
def dotv (a : FVec F S512x512 .f32) (b : Vec F S512x1024 .f32) : FVec F S512x1024 .f32 :=
  matmul dot_S512x512_S512x1024_S512x1024_1_0_0_1_n_n none a (shapeCast S512x1024 b shapeCasts_S512x1024_S512x1024) (constant S512x1024 .f32 0x00000000#32)

/-- A device's own product at a step. -/
def term (c : Dev nD) (r : Fin 4) (s : ℕ) : FVec F S512x1024 .f32 := dotv (xv m c (row r) (Fin.ofNat 16 s)) (wcol m c r)

/-- The partial sum a device has at a step: the upstream device's at the step before, plus its own product. -/
def acc (r : Fin 4) : ℕ → Dev nD → FVec F S512x1024 .f32
  | 0, c => term m c r 0
  | s + 1, c => addf (acc r s (up r c)) (term m c r (s + 1))

/-- The result columns of a ring. -/
def res (c : Dev nD) (r : Fin 4) : FVec F S512x1024 .f32 := epi (acc m r 15 c)

/-! ## Pieces held -/

/-- A memref's elements, at contents that it reads as `v`. -/
abbrev full (c : Dev nD) {sp : Space} {s : Shape} {e : EltTy} (M : Memref sig .tc sp s e) (v : s.Idx → Elt F e) : sProp 𝕄 :=
  owns (Ix := ℕ) (Name := ℕ) (U := UU) (Lvl := ℕ) (c : Thread nD τ) M fullShare v

/-- A memref's elements, at some contents. -/
def any (c : Dev nD) {sp : Space} {s : Shape} {e : EltTy} (M : Memref sig .tc sp s e) : sProp 𝕄 :=
  Release.slot (Ix := ℕ) (Val := Elt F) (Name := ℕ) (U := UU) (Lvl := ℕ) (M.view.loc (c : Thread nD τ)) M.view.set

instance any_storable (c : Dev nD) {sp : Space} {s : Shape} {e : EltTy} (M : Memref sig .tc sp s e) :
    BI.Storable (upEmb : UEmb _ 𝕄) (any (F := F) c M) := by unfold any Release.slot; infer_instance

instance full_storable (c : Dev nD) {sp : Space} {s : Shape} {e : EltTy} (M : Memref sig .tc sp s e) (v : s.Idx → Elt F e) :
    BI.Storable (upEmb : UEmb _ 𝕄) (full c M v) := by unfold full owns; infer_instance

theorem any_of_full (c : Dev nD) {sp : Space} {s : Shape} {e : EltTy} (M : Memref sig .tc sp s e) (v : s.Idx → Elt F e) :
    full c M v ⊢ (any c M : sProp 𝕄) := by
  unfold full owns any Release.slot; iintro ⟨%f, -, H⟩; iexists f; iexact H

/-! ## The rounds -/

/-- The amounts of the three kinds of copy. -/
def amtS : ℕ := (stageM X3 0 0).view.dmaCredit
def amtB : ℕ := (bufM R5 0 0).view.dmaCredit
def amtO : ℕ := (outM O2 0).view.dmaCredit

theorem amtS_pos : 0 < amtS := View.dmaCredit_pos _ (by decide)
theorem amtB_pos : 0 < amtB := View.dmaCredit_pos _ (by decide)
theorem amtO_pos : 0 < amtO := View.dmaCredit_pos _ (by decide)

/-- The ring whose result leaves over a staging semaphore. -/
def ringOf (e : Fin 2) (j : Fin 3) : Fin 4 := ⟨2 * e.val + j.val % 2, by omega⟩

/-- The downstream device's slot is free for copy `s`, and its round is open. -/
def avail (c : Dev nD) (r : Fin 4) (s : ℕ) : sProp 𝕄 :=
  iprop(Release.released EQ (down r c, r, par s) (s / 2 + 1) ∗ reached ER (cell (down r c) (.rcv r (par s))) (s / 2))

instance avail_persistent (c : Dev nD) (r : Fin 4) (s : ℕ) : BI.Persistent (avail (F := F) c r s) := by unfold avail; infer_instance
instance avail_storable (c : Dev nD) (r : Fin 4) (s : ℕ) : BI.Storable (upEmb : UEmb _ 𝕄) (avail (F := F) c r s) := by unfold avail; infer_instance

/-- A slot free for a copy was free for the copy two before. -/
theorem avail_mono (c : Dev nD) (r : Fin 4) {s t : ℕ} (h : s ≤ t) (hp : s % 2 = t % 2) : avail c r t ⊢ (avail c r s : sProp 𝕄) := by
  unfold avail
  have e : par s = par t := Fin.ext hp
  rw [e]
  exact BI.sep_mono (Release.released_mono EQ (by omega)) (Rounds.reached_mono ER (by omega))

/-- How many rounds a cell has. -/
def rounds : Cx → ℕ
  | .bar => 1
  | .crd _ => 1
  | .stg _ j => 7 - j.val
  | .snd _ b => 8 - b.val
  | .rcv _ b => 8 - b.val

/-- How many duties a cell's round has. -/
def nDuty : Cx → ℕ
  | .bar => 2
  | .crd _ => 13
  | _ => 1

/-- What a duty adds to the counter. -/
def amt : Cx → ℕ → ℕ
  | .bar, _ => 1
  | .crd _, _ => 1
  | .stg _ j, k => if j.val + 3 * k < 16 then amtS else amtO
  | .snd _ _, _ => amtB
  | .rcv _ _, _ => amtB

/-- What a duty hands over: at the barrier, that a neighbour's slots are free; a credit, that the next slot is; a staging
    cell, the staged row block or, last, the result columns; a send cell, the slot back; a receive cell, the partial sum. -/
def pay (c : Dev nD) : Cx → ℕ → ℕ → sProp 𝕄
  | .bar, _, d => bigSep (Finset.univ.filter fun r : Fin 4 => leftward r = decide (d = 0)) fun r => iprop(avail c r 0 ∗ avail c r 1)
  | .crd r, _, d => iprop(avail c r (d + 1) ∗ avail c r (d + 2))
  | .stg e j, k, _ => if h : j.val + 3 * k < 16 then full c (stageM X3 e j) (xv m c e ⟨j.val + 3 * k, h⟩)
      else iprop(full c (outM O2 (ringOf e j)) (res m c (ringOf e j)) ∗ any c (bufM S4b (ringOf e j) 1))
  | .snd r b, _, _ => any c (bufM S4b r b)
  | .rcv r b, k, _ => full c (bufM R5 r b) (acc m r (b.val + 2 * k) (up r c))

instance pay_storable (c : Dev nD) (x : Cx) (k d : ℕ) : BI.Storable (upEmb : UEmb _ 𝕄) (pay m c x k d) := by
  cases x <;> simp only [pay] <;> (try split) <;> infer_instance

theorem amt_pos (x : Cx) (k : ℕ) : 0 < amt x k := by
  cases x <;> simp only [amt] <;> (try split) <;> first | exact Nat.one_pos | exact amtS_pos | exact amtO_pos | exact amtB_pos

/-- The schedule of all cells. -/
def Rd : Rounds.Schedule (GSem nD τ sig) ℕ 𝕄 where
  duties g k := match cxOf g.2 with
    | some x => if k < rounds x then Finset.range (nDuty x) else ∅
    | none => ∅
  unitless _ := False
  amount g k _ := match cxOf g.2 with
    | some x => amt x k
    | none => 1
  payload g k d := match cxOf g.2 with
    | some x => pay m g.1.1 x k d
    | none => iprop(emp)
  amount_pos g k _ _ := by
    rcases cxOf g.2 with _ | x
    · exact Nat.one_pos
    · exact amt_pos x k

instance Rd_payload_storable (g : GSem nD τ sig) (k d : ℕ) : BI.Storable (upEmb : UEmb _ 𝕄) ((Rd m).payload g k d) := by
  show BI.Storable upEmb (match cxOf g.2 with | some x => pay m g.1.1 x k d | none => iprop(emp))
  split <;> infer_instance

section Facts
variable (c : Dev nD) (x : Cx)

theorem Rd_duties {k : ℕ} (h : k < rounds x) : (Rd m).duties (cell c x) k = Finset.range (nDuty x) := by
  dsimp only [Rd]; rw [cxOf_semOf]; exact if_pos h
theorem Rd_duties_later : ∀ k, rounds x ≤ k → (Rd m).duties (cell c x) k = ∅ := fun k h => by
  dsimp only [Rd]; rw [cxOf_semOf]; exact if_neg (by omega)
theorem Rd_amount (k d : ℕ) : (Rd m).amount (cell c x) k d = amt x k := by dsimp only [Rd]; rw [cxOf_semOf]
theorem Rd_payload (k d : ℕ) : (Rd m).payload (cell c x) k d = pay m c x k d := by dsimp only [Rd]; rw [cxOf_semOf]
theorem Rd_expect {k : ℕ} (h : k < rounds x) : (Rd m).expect (cell c x) k = nDuty x * amt x k := by
  unfold Schedule.expect Schedule.amountOf
  rw [Rd_duties m c x h, Finset.sum_congr rfl fun d _ => Rd_amount m c x k d, Finset.sum_const, Finset.card_range, smul_eq_mul]
/-- The whole of a one-duty round. -/
theorem Rd_rest1 {k : ℕ} (h : k < rounds x) (h1 : nDuty x = 1) :
    bigSep ((Rd m).duties (cell c x) k \ ∅) (fun d => (Rd m).payload (cell c x) k d) = pay m c x k 0 := by
  rw [Finset.sdiff_empty, Rd_duties m c x h, h1, Finset.range_one, bigSep_singleton, Rd_payload]

end Facts

/-! ## What a device owes, in the order in which it pays -/

abbrev Pay : Type := TalkSites.Pay nD τ sig

/-- A ring's payments at a step: a credit to the upstream device at steps 1 to 13, then the copy. -/
def ringPays (c : Dev nD) (r : Fin 4) (s : ℕ) : List Pay :=
  (if 1 ≤ s ∧ s ≤ 13 then [(cell (up r c) (.crd r), 2 * s + 1, 1)] else []) ++ [(cell (down r c) (.rcv r (par s)), 2 * s + 2, amtB)]

/-- A step's payments. -/
def stepPays (c : Dev nD) (s : ℕ) : List Pay := ringPays c 0 s ++ (ringPays c 2 s ++ (ringPays c 1 s ++ ringPays c 3 s))

/-- The payments of `n` steps from step `s` on. -/
def paysFrom (c : Dev nD) : ℕ → ℕ → List Pay
  | 0, _ => []
  | n + 1, s => stepPays c s ++ paysFrom c n (s + 1)

/-- All of a device's payments. -/
def pays (c : Dev nD) : List Pay :=
  (cell (lft c) .bar, 1, 1) :: (cell (rgt c) .bar, 1, 1) :: paysFrom c 15 0

/-- Which indices a list of payments is at: above `b`, below 40, at TensorCore cells. -/
def Above (b : ℕ) (l : List Pay) : Prop := ∀ p ∈ l, p.1.1.2 = .tc ∧ b < p.2.1 ∧ p.2.1 < 40

theorem Above.mono {b b' : ℕ} {l : List Pay} (h : Above b l) (hb : b' ≤ b) : Above b' l := fun p hp => ⟨(h p hp).1, by have := (h p hp).2.1; omega, (h p hp).2.2⟩
theorem Above.tail {b : ℕ} {p : Pay} {l : List Pay} (h : Above b (p :: l)) : Above b l := fun q hq => h q (List.mem_cons_of_mem _ hq)
theorem Above.append {b : ℕ} {l l' : List Pay} (h : Above b l) (h' : Above b l') : Above b (l ++ l') := fun q hq => by
  rcases List.mem_append.mp hq with hq | hq
  exacts [h q hq, h' q hq]
theorem Above.nil {b : ℕ} : Above b [] := fun q hq => absurd hq (List.not_mem_nil)

theorem ringPays_above (c : Dev nD) (r : Fin 4) {s : ℕ} (hs : s < 15) : Above (2 * s) (ringPays c r s) := by
  refine Above.append ?_ fun p hp => ?_
  · split
    · intro p hp; rw [List.mem_singleton.mp hp]; exact ⟨rfl, by dsimp only; omega, by dsimp only; omega⟩
    · exact Above.nil
  · rw [List.mem_singleton.mp hp]; exact ⟨rfl, by dsimp only; omega, by dsimp only; omega⟩
theorem stepPays_above (c : Dev nD) {s : ℕ} (hs : s < 15) : Above (2 * s) (stepPays c s) :=
  (ringPays_above c 0 hs).append ((ringPays_above c 2 hs).append ((ringPays_above c 1 hs).append (ringPays_above c 3 hs)))
theorem paysFrom_above (c : Dev nD) : ∀ (n : ℕ) {s : ℕ}, s + n ≤ 15 → Above (2 * s) (paysFrom c n s)
  | 0, _, _ => Above.nil
  | n + 1, s, h => (stepPays_above c (by omega)).append ((paysFrom_above c n (by omega)).mono (by omega))
theorem pays_above (c : Dev nD) : Above 0 (pays c) := fun p hp => by
  rcases List.mem_cons.mp hp with rfl | hp
  · exact ⟨rfl, Nat.one_pos, by dsimp only; omega⟩
  rcases List.mem_cons.mp hp with rfl | hp
  · exact ⟨rfl, Nat.one_pos, by dsimp only; omega⟩
  exact (paysFrom_above c 15 (by omega)).mono (by omega) p hp

/-- A TensorCore cell's indices; an index is its own level. -/
def L (g : GSem nD τ sig) : Finset ℕ := if g.1.2 = .tc then Finset.range 40 else ∅
def lv (_ : GSem nD τ sig) (u : ℕ) : ℕ := u

theorem L_of_ne (g : GSem nD τ sig) (h : g.1.2 ≠ .tc) : L g = ∅ := if_neg h
theorem L_tc (g : GSem nD τ sig) (h : g.1.2 = .tc) : L g = Finset.range 40 := if_pos h

variable (F) in
/-- The levels of all indices. -/
def levs : sProp 𝕄 := levAts L lv

instance levs_persistent : BI.Persistent (levs F) := by unfold levs; infer_instance

/-- A wait at an index below all that is still owed may be begun. -/
theorem mayWait {b i : ℕ} (hi : i ≤ b) (hb : b < 40) (c : Dev nD) (sm : SemLoc sig) {l : List Pay} (hl : Above b l) :
    levs F ⊢ MayWait (c : Thread nD τ) sm i (tallyL l) :=
  MayOwe.of_cut (L := L) (lev := lv) b
    (fun p hp => by rw [Finset.mem_singleton.mp hp]; show i ∈ L _; rw [L_tc _ rfl]; exact Finset.mem_range.mpr (by omega))
    (fun g u hg => by obtain ⟨x, hx, rfl, rfl⟩ := TalkSites.tallyL_pos hg; rw [L_tc _ (hl x hx).1]; exact Finset.mem_range.mpr (hl x hx).2.2)
    (fun p hp => by rw [Finset.mem_singleton.mp hp]; exact hi)
    (fun g u hg => by obtain ⟨x, hx, rfl, rfl⟩ := TalkSites.tallyL_pos hg; exact (hl x hx).2.1)

end Cert.KernelIdeal.Ring

end
-- ==== Proof.Copies.lean ====
/- What each single operation of a step does: one lemma per operation, for every device, ring, slot and step. -/
module

public import proofs.«01_k».proof.Proof.Sched
public import Idealize.ShloMosaic.Lib.Pipeline.Value

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

local notation "𝕄" => MT nD τ sig ℕ (Elt F) ℕ UU ℕ

abbrev 𝒱₀ : Variants := Variants.none

variable (m : (ℓ : Loc nD τ sig) → Buf (Elt F) ℓ)

/-! ## The views -/

theorem bufM_set (M : Memref sig .tc .vmem S4x2x512x1024 .f32) (r : Fin 4) (b : Fin 2) : (bufM M r b).view.set = (M.access (bufRect r b)).set :=
  View.set_reshape _ _
theorem stageM_set (M : Memref sig .tc .vmem S2x3x512x512 .f32) (e : Fin 2) (j : Fin 3) : (stageM M e j).view.set = (M.access (stageRect e j)).set :=
  View.set_reshape _ _

/-- Reading a slot is reading its rectangle, recast. -/
theorem bufM_read (M : Memref sig .tc .vmem S4x2x512x1024 .f32) (r : Fin 4) (b : Fin 2) (f : M.view.ty.Contents (Elt F)) :
    (bufM M r b).view.read (Elt F) f = shapeCast S512x1024 ((M.access (bufRect r b)).read (Elt F) f) shapeCasts_S1x1x512x1024_S512x1024 := rfl
theorem stageM_read (M : Memref sig .tc .vmem S2x3x512x512 .f32) (e : Fin 2) (j : Fin 3) (f : M.view.ty.Contents (Elt F)) :
    (stageM M e j).view.read (Elt F) f = shapeCast S512x512 ((M.access (stageRect e j)).read (Elt F) f) shapeCasts_S1x1x512x512_S512x512 := rfl

/-- A slot written with a block's words reads as the block. -/
theorem bufM_read_write (M : Memref sig .tc .vmem S4x2x512x1024 .f32) (r : Fin 4) (b : Fin 2) (f : M.view.ty.Contents (Elt F)) (v : FVec F S512x1024 .f32) :
    (bufM M r b).view.read (Elt F) ((M.access (bufRect r b)).write (Elt F) f (box v) Finset.univ) = v := by
  rw [bufM_read]
  exact (congrArg (fun w => shapeCast S512x1024 w shapeCasts_S1x1x512x1024_S512x1024) (View.read_write_univ (v := M.access (bufRect r b)) f (box v))).trans
    (shapeCast_shapeCast v _ _)

/-! ## Loads and stores of one piece -/

variable (F) in
/-- What a program is run to. -/
abbrev Post : Type _ := PUnit.{1} → sProp (MT nD τ sig ℕ (Elt F) ℕ UU ℕ)

/-- A program of device `c`, run to `Q`. -/
abbrev WP (c : Dev nD) (k : KProg F) (Q : Post F) : sProp 𝕄 :=
  wp frame (wpE (defs₀ (F := F)) 𝒱₀ (c : Thread nD τ) none) Set.univ k Q

variable {Q : Post F}

theorem load_stage (c : Dev nD) (M : Memref sig .tc .vmem S2x3x512x512 .f32) (e : Fin 2) (j : Fin 3) (f : Buf (Elt F) (M.view.loc (c : Thread nD τ)))
    {hl : M.view.LoadsAt (stageRect e j).toLoadRect} (k : Vec F S1x1x512x512 .f32 → KProg F) :
    (((stageM M e j).view.loc (c : Thread nD τ) ↦[(stageM M e j).view.set]{fullShare} f : sProp 𝕄))
      ⊢ iprop((((stageM M e j).view.loc (c : Thread nD τ) ↦[(stageM M e j).view.set]{fullShare} f) -∗ WP c (k ((M.access (stageRect e j)).read (Elt F) f)) Q)
        -∗ WP c (.op (.load M (stageRect e j).toLoadRect hl) k) Q) :=
  wp_load_rect 𝒱₀ (c : Thread nD τ) none Set.univ (m := M) (r := stageRect e j) (S := (stageM M e j).view.set) (f := f) (stageM_set M e j).symm.subset
theorem load_buf (c : Dev nD) (M : Memref sig .tc .vmem S4x2x512x1024 .f32) (r : Fin 4) (b : Fin 2) (f : Buf (Elt F) (M.view.loc (c : Thread nD τ)))
    {hl : M.view.LoadsAt (bufRect r b).toLoadRect} (k : Vec F S1x1x512x1024 .f32 → KProg F) :
    (((bufM M r b).view.loc (c : Thread nD τ) ↦[(bufM M r b).view.set]{fullShare} f : sProp 𝕄))
      ⊢ iprop((((bufM M r b).view.loc (c : Thread nD τ) ↦[(bufM M r b).view.set]{fullShare} f) -∗ WP c (k ((M.access (bufRect r b)).read (Elt F) f)) Q)
        -∗ WP c (.op (.load M (bufRect r b).toLoadRect hl) k) Q) :=
  wp_load_rect 𝒱₀ (c : Thread nD τ) none Set.univ (m := M) (r := bufRect r b) (S := (bufM M r b).view.set) (f := f) (bufM_set M r b).symm.subset
theorem store_buf (c : Dev nD) (M : Memref sig .tc .vmem S4x2x512x1024 .f32) (r : Fin 4) (b : Fin 2) (f : Buf (Elt F) (M.view.loc (c : Thread nD τ)))
    (w : Vec F S1x1x512x1024 .f32) {hx : (M.access (bufRect r b)).Stores Finset.univ} {hm : _} (k : PUnit.{1} → KProg F) :
    (((bufM M r b).view.loc (c : Thread nD τ) ↦[(bufM M r b).view.set]{fullShare} f : sProp 𝕄))
      ⊢ iprop((((bufM M r b).view.loc (c : Thread nD τ) ↦[(bufM M r b).view.set]{fullShare} ((M.access (bufRect r b)).write (Elt F) f w Finset.univ)) -∗ WP c (k ⟨⟩) Q)
        -∗ WP c (.op (.store M (bufRect r b) w Finset.univ hx hm) k) Q) :=
  wp_store 𝒱₀ (c : Thread nD τ) none Set.univ (m := M) (r := bufRect r b) (Mk := Finset.univ) (S := (bufM M r b).view.set) (f := f) (bufM_set M r b).symm.subset

/-! ## The records shared by all devices -/

variable (K : Dev nD × Cx → ℕ) (J : Key → ℕ)

/-- Every cell's rounds are kept, every receive slot's passing on is kept, and every cell is at round 0 or later. -/
def records : sProp 𝕄 :=
  iprop((bigSep Finset.univ fun cx : Dev nD × Cx => cellInv ER (Rd m) (K cx) (cell cx.1 cx.2))
    ∗ (bigSep Finset.univ fun cx : Dev nD × Cx => reached ER (cell cx.1 cx.2) 0)
    ∗ (bigSep Finset.univ fun k : Key => Release.slotInv EQ (J k) k (any k.1 (bufM R5 k.2.1 k.2.2)))
    ∗ levs F)

instance records_persistent : BI.Persistent (records m K J) := by unfold records; infer_instance

theorem inv_at (c : Dev nD) (x : Cx) : records m K J ⊢ cellInv ER (Rd m) (K (c, x)) (cell c x) := by
  unfold records
  iintro ⟨#H, -, -, -⟩
  iapply (show (bigSep Finset.univ fun cx : Dev nD × Cx => (cellInv ER (Rd m) (K cx) (cell cx.1 cx.2) : sProp 𝕄)) ⊢ cellInv ER (Rd m) (K (c, x)) (cell c x) from bigSep_elim (Finset.mem_univ (c, x)))
  iexact H
theorem reached_at (c : Dev nD) (x : Cx) : records m K J ⊢ (reached ER (cell c x) 0 : sProp 𝕄) := by
  unfold records
  iintro ⟨-, #H, -, -⟩
  iapply (show (bigSep Finset.univ fun cx : Dev nD × Cx => (reached ER (cell cx.1 cx.2) 0 : sProp 𝕄)) ⊢ reached ER (cell c x) 0 from bigSep_elim (Finset.mem_univ (c, x)))
  iexact H
theorem slot_at (c : Dev nD) (r : Fin 4) (b : Fin 2) : records m K J ⊢ Release.slotInv EQ (J (c, r, b)) (c, r, b) (any c (bufM R5 r b) : sProp 𝕄) := by
  unfold records
  iintro ⟨-, -, #H, -⟩
  iapply (show (bigSep Finset.univ fun k : Key => (Release.slotInv EQ (J k) k (any k.1 (bufM R5 k.2.1 k.2.2)) : sProp 𝕄))
    ⊢ Release.slotInv EQ (J (c, r, b)) (c, r, b) (any c (bufM R5 r b)) from bigSep_elim (Finset.mem_univ (c, r, b)))
  iexact H
theorem levs_at : records m K J ⊢ levs F := by
  unfold records
  iintro ⟨-, -, -, #H⟩
  iexact H

/-- A device owes the payments of a list, in order. -/
def owesL (c : Dev nD) (l : List Pay) : sProp 𝕄 := iprop(∃ W, owes (c : Thread nD τ) (tallyL l) W)

/-! ## A wait on a cell of one duty -/

/-- A wait for the whole amount of a one-duty round: the duty's payload is handed over and the next round is open. -/
theorem wait1 (c : Dev nD) (x : Cx) {R : ℕ} (hR : R < rounds x) (h1 : nDuty x = 1) {w : TpuEff nD τ sig (Elt F) Λ₀ .tc PUnit}
    (hw : ∀ K : PUnit → sProp 𝕄, wpE (defs₀ (F := F)) 𝒱₀ (c : Thread nD τ) none Set.univ w K = waitSpec (c : Thread nD τ) Set.univ (semOf x) (amt x R) K)
    {k : KProg F} {i b : ℕ} (hi : i ≤ b) (hb : b < 40) {l : List Pay} (hl : Above b l) :
    iprop(records m K J ∗ cred (tallyAt (cell c x) i (amt x R)) ∗ owesL c l ∗ atPos ER (cell c x) R ∅ 0)
      ⊢ iprop((owesL c l ∗ atPos ER (cell c x) (R + 1) ∅ 0 ∗ reached ER (cell c x) (R + 1) ∗ pay m c x R 0 -∗ WP c k Q)
          -∗ WP c (.op w fun _ => k) Q) := by
  unfold owesL
  iintro ⟨#HI, Hc, ⟨%W, HO⟩, Hat⟩ Hk
  ihave #Hlev := (levs_at m K J) $$ HI
  iapply (Rounds.wp_wait_rest_token 𝒱₀ ER (Rd m) (c : Thread nD τ) none (κ := K (c, x)) hw (Set.mem_univ _) i (O := tallyL l) (W := W) (R := R) (m := 0) (T := ∅)
      (by rw [Nat.zero_add, Rd_expect m c x hR, h1, Nat.one_mul])) $$ [Hc HO Hat]
  · isplitr; · iapply (inv_at m K J c x); iexact HI
    isplitl [Hc]; · iexact Hc
    isplitl [HO]; · iexact HO
    isplitr; · iapply (mayWait hi hb c (semOf x) hl); iexact Hlev
    iexact Hat
  iintro ⟨HO, Hat, Hr, Hp⟩
  ihave Hp := (Entails.of_eq (Rd_rest1 m c x hR h1)) $$ Hp
  iapply Hk
  isplitl [HO]; · iexists _; iexact HO
  isplitl [Hat]; · iexact Hat
  isplitl [Hr]; · iexact Hr
  iexact Hp

/-- The same, of a wait for a copy. -/
theorem waitDma (c : Dev nD) (x : Cx) {R : ℕ} (hR : R < rounds x) (h1 : nDuty x = 1) {sem : DmaSem sig} {sp sp' : Space} {s s' : Shape} {e e' : EltTy}
    {src : Memref sig .tc sp s e} {dst : Memref sig .tc sp' s' e'} (h : src.view.WordExact) (h' : dst.view.WordExact)
    (hsem : SemLoc.dma sem = semOf x) (hamt : dst.view.dmaCredit = amt x R)
    {k : KProg F} {i b : ℕ} (hi : i ≤ b) (hb : b < 40) {l : List Pay} (hl : Above b l) :
    iprop(records m K J ∗ cred (tallyAt (cell c x) i (amt x R)) ∗ owesL c l ∗ atPos ER (cell c x) R ∅ 0)
      ⊢ iprop((owesL c l ∗ atPos ER (cell c x) (R + 1) ∅ 0 ∗ reached ER (cell c x) (R + 1) ∗ pay m c x R 0 -∗ WP c k Q)
          -∗ WP c (.op (.waitDma2 sem src dst h h') fun _ => k) Q) :=
  wait1 m K J c x hR h1 (by rw [← hsem, ← hamt]; exact wpE_waitDma2_eq 𝒱₀ (c : Thread nD τ) none Set.univ) hi hb hl

/-! ## Staging a row block of `x` -/

/-- A staging cell ready for the copy of step `t`. -/
def stgFree (c : Dev nD) (e : Fin 2) (t : ℕ) : sProp 𝕄 :=
  iprop(atPos ER (cell c (.stg e (tri t))) (t / 3) ∅ 0 ∗ reached ER (cell c (.stg e (tri t))) (t / 3))
/-- The copy of step `t` is under way. -/
def stgBusy (c : Dev nD) (e : Fin 2) (t : ℕ) : sProp 𝕄 :=
  iprop(atPos ER (cell c (.stg e (tri t))) (t / 3) ∅ 0 ∗ cred (tallyAt (cell c (.stg e (tri t))) 0 amtS))
/-- A staging slot at any contents, and at step `t`'s row block. -/
def stgAny (c : Dev nD) (e : Fin 2) (t : ℕ) : sProp 𝕄 := any c (stageM X3 e (tri t))
def stgFull (c : Dev nD) (e : Fin 2) (t : ℕ) : sProp 𝕄 := full c (stageM X3 e (tri t)) (xv m c e (Fin.ofNat 16 t))
/-- The duty of step `t`'s copy. -/
def stgTok (c : Dev nD) (e : Fin 2) (t : ℕ) : sProp 𝕄 := dutyTok ER (cell c (.stg e (tri t))) (t / 3) 0
/-- Some share of `x`. -/
def xPts (c : Dev nD) : sProp 𝕄 :=
  iprop(∃ q : PosShare TreeShare, ((c : Thread nD τ).loc main_arg0) ↦{q} m ((c : Thread nD τ).loc main_arg0))

theorem stg_lt {t : ℕ} (h : t < 16) (e : Fin 2) : t / 3 < rounds (.stg e (tri t)) := by simp only [rounds, tri]; omega
theorem stg_idx {t : ℕ} : (tri t).val + 3 * (t / 3) = t := by simp only [tri]; omega
theorem stg_amt {t : ℕ} (h : t < 16) (e : Fin 2) : amt (.stg e (tri t)) (t / 3) = amtS := by
  simp only [amt]; rw [stg_idx, if_pos h]
theorem stg_pay {t : ℕ} (h : t < 16) (c : Dev nD) (e : Fin 2) (d : ℕ) : pay m c (.stg e (tri t)) (t / 3) d = stgFull m c e t := by
  simp only [pay, stgFull]
  rw [dif_pos (by rw [stg_idx]; exact h)]
  congr 2
  exact Fin.ext (by rw [Fin.val_ofNat, Nat.mod_eq_of_lt h]; exact stg_idx)

theorem xv_val (c : Dev nD) (e : Fin 2) (s : Fin 16) :
    xv m c e (Fin.ofNat 16 s.val) = (xM A0 e c s).view.read (Elt F) (m ((c : Thread nD τ).loc main_arg0)) := by
  rw [show Fin.ofNat 16 s.val = s from Fin.ext (Nat.mod_eq_of_lt s.isLt)]; rfl

/-- The copy of a step's row block is started. -/
theorem issue1_wp (c : Dev nD) (e : Fin 2) (s : Fin 16) (k : KProg F) :
    iprop(records m K J ∗ stgFree c e s.val ∗ stgAny c e s.val ∗ stgTok c e s.val ∗ xPts m c)
      ⊢ iprop((stgBusy c e s.val ∗ xPts m c -∗ WP c k Q) -∗ WP c (issue1 A0 X3 cc0_scratch3 c s e k) Q) := by
  unfold issue1 stgFree stgAny any Release.slot stgTok
  iintro ⟨#HI, ⟨Hat, Hr⟩, ⟨%f, Hs⟩, Ht, Hx⟩ Hk
  unfold xPts
  icases Hx with ⟨%q, Hx⟩
  ihave Hx := (pointsTo_share (f := m ((c : Thread nD τ).loc main_arg0)) (PosShare.mem_left_op_right q)).1 $$ Hx
  icases Hx with ⟨Hx1, Hx2⟩
  ihave Hx1 := (pointsTo_split_subset (Finset.subset_univ (xM A0 e c s).view.set)) $$ Hx1
  icases Hx1 with ⟨Hx1, -⟩
  iapply (Rounds.wp_copy_pointsTo 𝒱₀ ER (Rd m) (c : Thread nD τ) none (κ := K (c, .stg e (tri s.val))) (r := s.val / 3) (d := 0)
      (src := xM A0 e c s) (dst := stageM X3 e (tri s.val)) (sem := semOf (.stg e (tri s.val)))
      (by rw [Rd_duties m c _ (stg_lt s.isLt e)]; exact Finset.mem_singleton_self _) 0 amtS rfl (by rw [Rd_amount, stg_amt s.isLt])
      (q := q.left) (fd := f) (by
        rw [Rd_payload, stg_pay m s.isLt]
        unfold stgFull full owns
        iintro ⟨H, -⟩
        iexists _
        isplitr
        · ipureintro; exact (View.read_write_univ f _).trans (xv_val m c e s).symm
        iexact H)) $$ [Hx1 Hs Ht Hr]
  · isplitr; · iapply (inv_at m K J c _); iexact HI
    isplitl [Hx1]; · iexact Hx1
    isplitl [Hs]; · iexact Hs
    isplitl [Ht]; · iexact Ht
    iexact Hr
  iintro Hc
  iapply Hk
  unfold stgBusy
  isplitl [Hat Hc]
  · isplitl [Hat]; · iexact Hat
    iexact Hc
  iexists q.right; iexact Hx2

/-- The copy of a step's row block is waited for. -/
theorem await1_wp (c : Dev nD) (e : Fin 2) (s : Fin 16) (k : KProg F) {l : List Pay} (hl : Above 0 l) :
    iprop(records m K J ∗ owesL c l ∗ stgBusy c e s.val)
      ⊢ iprop((owesL c l ∗ stgFree c e (s.val + 3) ∗ stgFull m c e s.val -∗ WP c k Q) -∗ WP c (await1 A0 X3 cc0_scratch3 c s e k) Q) := by
  unfold await1 stgBusy
  iintro ⟨#HI, HO, Hat, Hc⟩ Hk
  iapply (waitDma m K J c (.stg e (tri s.val)) (R := s.val / 3) (stg_lt s.isLt e) rfl
    (src := xM A0 e c s) (dst := stageM X3 e (tri s.val)) (View.wordExact_bits rfl) ((View.wordExact_bits rfl).reshape _ _) rfl (stg_amt s.isLt e).symm (i := 0) (b := 0) le_rfl (by omega) hl) $$ [HO Hat Hc]
  · isplitr; · iexact HI
    isplitl [Hc]; · rw [stg_amt s.isLt]; iexact Hc
    isplitl [HO]; · iexact HO
    iexact Hat
  iintro ⟨HO, Hat, Hr, Hp⟩
  iapply Hk
  isplitl [HO]; · iexact HO
  isplitl [Hat Hr]
  · unfold stgFree
    rw [show tri (s.val + 3) = tri s.val from Fin.ext (by simp only [tri]; omega), show (s.val + 3) / 3 = s.val / 3 + 1 by omega]
    isplitl [Hat]; · iexact Hat
    iexact Hr
  iapply (Entails.of_eq (stg_pay m s.isLt c e 0)); iexact Hp

end Cert.KernelIdeal.Ring

end
-- ==== Proof.Ops.lean ====
/- What each operation of a ring's step does: one lemma per operation, for every device, ring and step. -/
module

public import proofs.«01_k».proof.Proof.Copies

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

local notation "𝕄" => MT nD τ sig ℕ (Elt F) ℕ UU ℕ

variable (m : (ℓ : Loc nD τ sig) → Buf (Elt F) ℓ)
variable (K : Dev nD × Cx → ℕ) (J : Key → ℕ)
variable {Q : Post F}

/-! ## The own product -/

/-- The device's rows of `w`, staged. -/
def wPts (c : Dev nD) : sProp 𝕄 := (W1.view.loc (c : Thread nD τ)) ↦{fullShare} wstg m c

/-- A step's product is made of the staged row block and the ring's columns. -/
theorem part_wp (c : Dev nD) (r : Fin 4) (s : ℕ) (k : FVec F S512x1024 .f32 → KProg F) :
    iprop(stgFull m c (row r) s ∗ wPts m c)
      ⊢ iprop((stgFull m c (row r) s ∗ wPts m c -∗ WP c (k (term m c r s)) Q) -∗ WP c (part W1 X3 r s k) Q) := by
  unfold part stgFull full owns wPts
  iintro ⟨⟨%f, %hf, Hs⟩, Hw⟩ Hk
  iapply (load_stage c X3 (row r) (tri s) f) $$ Hs
  iintro Hs
  iapply (wp_load 𝒱₀ (c : Thread nD τ) none Set.univ (m := W1) (Finset.subset_univ _)) $$ Hw
  iintro Hw
  have e : prod ((X3.access (stageRect (row r) (tri s))).read (Elt F) f) (W1.view.readAt (Elt F) (colRect r).toLoadRect (wstg m c)) = term m c r s := by
    unfold term wcol; rw [← hf]; rfl
  rw [e]
  iapply Hk
  isplitl [Hs]
  · iexists f
    isplitr; · ipureintro; exact hf
    iexact Hs
  iexact Hw

/-! ## The send slots -/

/-- Before step `t`'s copy: its send cell's round is open. -/
def sndPos (c : Dev nD) (r : Fin 4) (t : ℕ) : sProp 𝕄 :=
  iprop(atPos ER (cell c (.snd r (par t))) (t / 2) ∅ 0 ∗ reached ER (cell c (.snd r (par t))) (t / 2))
/-- Step `t`'s copy is under way. -/
def sndBusy (c : Dev nD) (r : Fin 4) (t : ℕ) : sProp 𝕄 :=
  iprop(atPos ER (cell c (.snd r (par t))) (t / 2) ∅ 0 ∗ cred (tallyAt (cell c (.snd r (par t))) 0 amtB))
/-- A step's send slot, at any contents and at `v`. -/
def sndAny (c : Dev nD) (r : Fin 4) (t : ℕ) : sProp 𝕄 := any c (bufM S4b r (par t))
def sndFull (c : Dev nD) (r : Fin 4) (t : ℕ) (v : FVec F S512x1024 .f32) : sProp 𝕄 := full c (bufM S4b r (par t)) v

theorem snd_lt {t : ℕ} (h : t < 15) (r : Fin 4) : t / 2 < rounds (.snd r (par t)) := by simp only [rounds, par]; omega
theorem rcv_lt {t : ℕ} (h : t < 15) (r : Fin 4) : t / 2 < rounds (.rcv r (par t)) := by simp only [rounds, par]; omega
theorem par_idx {t : ℕ} : (par t).val + 2 * (t / 2) = t := by simp only [par]; omega
theorem par_add (t : ℕ) : par (t + 2) = par t := Fin.ext (by simp only [par]; omega)
theorem half_add (t : ℕ) : (t + 2) / 2 = t / 2 + 1 := by omega

/-- The slot of step `t` has left. -/
theorem sent_wp (c : Dev nD) (r : Fin 4) {t : ℕ} (ht : t < 15) (k : KProg F) {l : List Pay} (hl : Above 0 l) :
    iprop(records m K J ∗ owesL c l ∗ sndBusy c r t)
      ⊢ iprop((owesL c l ∗ sndPos c r (t + 2) ∗ sndAny c r (t + 2) -∗ WP c k Q) -∗ WP c (sent S4b R5 cc0_scratch4 r t k) Q) := by
  unfold sent sndBusy
  iintro ⟨#HI, HO, Hat, Hc⟩ Hk
  iapply (waitDma m K J c (.snd r (par t)) (R := t / 2) (snd_lt ht r) rfl
    (src := bufM R5 r (par t)) (dst := bufM S4b r (par t)) ((View.wordExact_bits rfl).reshape _ _) ((View.wordExact_bits rfl).reshape _ _) rfl (amt3 r (par t)) (i := 0) (b := 0) le_rfl (by omega) hl) $$ [HO Hat Hc]
  · isplitr; · iexact HI
    isplitl [Hc]; · iexact Hc
    isplitl [HO]; · iexact HO
    iexact Hat
  iintro ⟨HO, Hat, Hr, Hp⟩
  iapply Hk
  isplitl [HO]; · iexact HO
  unfold sndPos sndAny
  rw [par_add, half_add]
  isplitl [Hat Hr]
  · isplitl [Hat]; · iexact Hat
    iexact Hr
  iapply (show pay m c (.snd r (par t)) (t / 2) 0 ⊢ any c (bufM S4b r (par t)) from Entails.of_eq (by simp only [pay])); iexact Hp

/-- A step's send slot is written. -/
theorem put_wp (c : Dev nD) (r : Fin 4) (s : ℕ) (v : FVec F S512x1024 .f32) (k : KProg F) :
    (sndAny c r s) ⊢ iprop((sndFull c r s v -∗ WP c k Q) -∗ WP c (put S4b r s (box v) k) Q) := by
  unfold put sndAny any Release.slot sndFull full owns
  iintro ⟨%f, Hs⟩ Hk
  iapply (load_buf c S4b r (par s) f) $$ Hs
  iintro Hs
  iapply (store_buf c S4b r (par s) f (box v)) $$ Hs
  iintro Hs
  iapply Hk
  iexists _
  isplitr; · ipureintro; exact bufM_read_write S4b r (par s) f v
  iexact Hs

/-! ## The receive slots -/

/-- Before step `t`'s copy is received: the receive cell's round is open and the slot has been given up for it. -/
def rcvSt (c : Dev nD) (r : Fin 4) (t : ℕ) : sProp 𝕄 :=
  iprop(atPos ER (cell c (.rcv r (par t))) (t / 2) ∅ 0 ∗ Release.readerAt EQ (c, r, par t) (t / 2 + 1))
/-- After: the next round is open. -/
def rcvPos (c : Dev nD) (r : Fin 4) (t : ℕ) : sProp 𝕄 :=
  iprop(atPos ER (cell c (.rcv r (par t))) (t / 2 + 1) ∅ 0 ∗ reached ER (cell c (.rcv r (par t))) (t / 2 + 1))
/-- The credit of step `t`'s copy from upstream. -/
def rcvCred (c : Dev nD) (r : Fin 4) (t : ℕ) : sProp 𝕄 := cred (tallyAt (cell c (.rcv r (par t))) (2 * t + 2) amtB)
/-- The slot of step `t`, in hand again. -/
def rcvAny (c : Dev nD) (r : Fin 4) (t : ℕ) : sProp 𝕄 := any c (bufM R5 r (par t))

/-- The upstream device's partial sum is received and read. -/
theorem recvd_wp (c : Dev nD) (r : Fin 4) {t : ℕ} (ht : t < 15) (k : Vec F S1x1x512x1024 .f32 → KProg F) {l : List Pay} (hl : Above (2 * t + 2) l) :
    iprop(records m K J ∗ owesL c l ∗ rcvSt c r t ∗ rcvCred c r t)
      ⊢ iprop((∀ v, ⌜∀ p, plus v p = addf (acc m r t (up r c)) p⌝ ∗ owesL c l ∗ rcvPos c r t ∗ Release.readerAt EQ (c, r, par t) (t / 2 + 1) ∗ rcvAny c r t
          -∗ WP c (k v) Q) -∗ WP c (recvd S4b R5 cc0_scratch5 r t k) Q) := by
  unfold recvd rcvSt rcvCred
  iintro ⟨#HI, HO, ⟨Hat, Hre⟩, Hc⟩ Hk
  iapply (waitDma m K J c (.rcv r (par t)) (R := t / 2) (rcv_lt ht r) rfl
    (src := bufM S4b r (par t)) (dst := bufM R5 r (par t)) ((View.wordExact_bits rfl).reshape _ _) ((View.wordExact_bits rfl).reshape _ _) rfl (amt2 r (par t)) (i := 2 * t + 2) (b := 2 * t + 2) le_rfl (by omega) hl) $$ [HO Hat Hc]
  · isplitr; · iexact HI
    isplitl [Hc]; · iexact Hc
    isplitl [HO]; · iexact HO
    iexact Hat
  iintro ⟨HO, Hat, Hr, Hp⟩
  have hp : pay m c (.rcv r (par t)) (t / 2) 0 = full c (bufM R5 r (par t)) (acc m r t (up r c)) := by simp only [pay, par_idx]
  ihave Hp := (Entails.of_eq hp) $$ Hp
  unfold full owns
  icases Hp with ⟨%f, %hf, Hp⟩
  iapply (load_buf c R5 r (par t) f) $$ Hp
  iintro Hp
  iapply Hk $$ %((R5.access (bufRect r (par t))).read (Elt F) f)
  isplitr; · ipureintro; intro p; unfold plus; rw [← hf]; rfl
  isplitl [HO]; · iexact HO
  isplitl [Hat Hr]
  · unfold rcvPos
    isplitl [Hat]; · iexact Hat
    iexact Hr
  isplitl [Hre]; · iexact Hre
  unfold rcvAny any Release.slot
  iexists f; iexact Hp

theorem bufM_nonempty (r : Fin 4) (b : Fin 2) : (bufM R5 r b).view.set.Nonempty :=
  ⟨(bufM R5 r b).view.emb (fun a => ⟨0, by revert a; decide⟩), Finset.mem_map_of_mem _ (Finset.mem_univ _)⟩

/-- A receive slot is given up for the next write. -/
theorem giveUp (c : Dev nD) (r : Fin 4) (b : Fin 2) (n : ℕ) :
    iprop(records m K J ∗ Release.readerAt EQ (c, r, b) n ∗ any c (bufM R5 r b))
      ⊢ |={Set.univ}=> iprop(Release.readerAt EQ (c, r, b) (n + 1) ∗ Release.released EQ (c, r, b) (n + 1)) := by
  have h : iprop(any c (bufM R5 r b) ∗ any c (bufM R5 r b)) ⊢ (False : sProp 𝕄) := by
    unfold any; exact Release.slot_slot_false (bufM_nonempty r b)
  iintro ⟨#HI, Hre, Hs⟩
  iapply (Release.slot_release EQ (S := any c (bufM R5 r b)) (Set.mem_univ (J (c, r, b))) h n)
  isplitr; · iapply (slot_at m K J c r b); iexact HI
  isplitl [Hre]; · iexact Hre
  iexact Hs

/-- The slot read at step `t` is free for the copy of step `t + 2`. -/
theorem free_next (c : Dev nD) (r : Fin 4) (t : ℕ) :
    iprop(records m K J ∗ rcvPos c r t ∗ Release.readerAt EQ (c, r, par t) (t / 2 + 1) ∗ rcvAny c r t)
      ⊢ |={Set.univ}=> iprop(rcvSt c r (t + 2) ∗ avail (up r c) r (t + 2)) := by
  unfold rcvPos rcvAny rcvSt avail
  rw [down_up, par_add, half_add]
  iintro ⟨#HI, ⟨Hat, #Hr⟩, Hre, Hs⟩
  imod (giveUp m K J c r (par t) (t / 2 + 1)) $$ [Hre Hs] with ⟨Hre, #Hrel⟩
  · isplitr; · iexact HI
    isplitl [Hre]; · iexact Hre
    iexact Hs
  imodintro
  isplitl [Hat Hre]
  · isplitl [Hat]; · iexact Hat
    iexact Hre
  isplitr; · iexact Hrel
  iexact Hr

/-! ## Credits -/

/-- The duty of the credit a device gives upstream at step `s`. -/
def crdTok (c : Dev nD) (r : Fin 4) (s : ℕ) : sProp 𝕄 := dutyTok ER (cell (up r c) (.crd r)) 0 (s - 1)
/-- The credit for the one it takes at step `s + 1`. -/
def crdCred (c : Dev nD) (r : Fin 4) (s : ℕ) : sProp 𝕄 := cred (tallyAt (cell c (.crd r)) (2 * s + 1) 1)
/-- After `n` credits taken: at least `n` duties have landed, and what they hand over is known. -/
def crdSt (c : Dev nD) (r : Fin 4) (n : ℕ) : sProp 𝕄 :=
  iprop(∃ T : Finset ℕ, ⌜T ⊆ Finset.range 13 ∧ n ≤ T.card⌝ ∗ atPos ER (cell c (.crd r)) 0 T n
    ∗ bigSep T fun j => iprop(avail c r (j + 1) ∗ avail c r (j + 2)))

/-- A credit is given upstream. -/
theorem give_wp (c : Dev nD) (r : Fin 4) {s : ℕ} (h1 : 1 ≤ s) (h13 : s ≤ 13) (k : KProg F) {l : List Pay} :
    iprop(records m K J ∗ owesL c ((cell (up r c) (.crd r), 2 * s + 1, 1) :: l) ∗ crdTok c r s ∗ avail (up r c) r s ∗ avail (up r c) r (s + 1))
      ⊢ iprop((owesL c l -∗ WP c k Q) -∗ WP c (give cc0_scratch6 c r s k) Q) := by
  unfold give
  rw [decide_eq_true h13, cond_true]
  unfold owesL crdTok
  iintro ⟨#HI, ⟨%W, HO⟩, Ht, #Ha, #Hb⟩ Hk
  iapply (Rounds.wp_signal 𝒱₀ ER (Rd m) (c : Thread nD τ) none (dst := ((up r c : Dev nD) : Thread nD τ)) (κ := K (up r c, .crd r)) (r := 0) (d := s - 1)
      (by rw [show (((up r c : Dev nD) : Thread nD τ), SemLoc.reg (credS cc0_scratch6 r)) = cell (up r c) (.crd r) from rfl, Rd_duties m (up r c) (.crd r) (k := 0) Nat.one_pos]
          exact Finset.mem_range.mpr (by simp only [nDuty]; omega))
      ((Rd_amount m (up r c) (.crd r) 0 (s - 1)).trans (show 1 = _ by decide)) (2 * s + 1) (tallyL l) (add_comm _ _) (W := W)) $$ [HO Ht]
  · isplitr; · iapply (inv_at m K J (up r c) (.crd r)); iexact HI
    isplitl [HO]; · iexact HO
    isplitl [Ht]; · iexact Ht
    isplitr
    · iapply (show pay m (up r c) (.crd r) 0 (s - 1) ⊢ (Rd m).payload (((up r c : Dev nD) : Thread nD τ), SemLoc.reg (credS cc0_scratch6 r)) 0 (s - 1) from
        Entails.of_eq (Rd_payload m (up r c) (.crd r) 0 (s - 1)).symm)
      simp only [pay]
      rw [show s - 1 + 1 = s by omega, show s - 1 + 2 = s + 1 by omega]
      isplitr; · iexact Ha
      iexact Hb
    · iapply (reached_at m K J (up r c) (.crd r)); iexact HI
  iintro HO
  iapply Hk
  iexists W; iexact HO

/-- A credit is taken. -/
theorem take_wp (c : Dev nD) (r : Fin 4) {s : ℕ} (h2 : 2 ≤ s) (h14 : s ≤ 14) (k : KProg F) {l : List Pay} (hl : Above (2 * s - 1) l) :
    iprop(records m K J ∗ owesL c l ∗ crdSt c r (s - 2) ∗ crdCred c r (s - 1))
      ⊢ iprop((owesL c l ∗ crdSt c r (s - 1) ∗ avail c r s -∗ WP c k Q) -∗ WP c (take cc0_scratch6 r s k) Q) := by
  unfold take
  rw [decide_eq_true h2, cond_true]
  unfold owesL crdSt crdCred
  iintro ⟨#HI, ⟨%W, HO⟩, ⟨%T, %hT, Hat, #HT⟩, Hc⟩ Hk
  ihave #Hlev := (levs_at m K J) $$ HI
  iapply (Rounds.wp_wait 𝒱₀ ER (Rd m) (c : Thread nD τ) none (κ := K (c, .crd r)) (sm := semOf (.crd r)) (k' := 1) (wpE_semWait_eq 𝒱₀ (c : Thread nD τ) none Set.univ)
      (Set.mem_univ _) (cr := Finsupp.single (2 * (s - 1) + 1) 1) (O := tallyL l) (W := W) {(semOf (.crd r), 2 * (s - 1) + 1)} (R := 0) (m := s - 2) (T := T)
      (Util.total_single _ _) (image_single_subset _ _ _)) $$ [Hc HO Hat]
  · isplitr; · iapply (inv_at m K J c (.crd r)); iexact HI
    isplitl [Hc]; · iexact Hc
    isplitl [HO]; · iexact HO
    isplitr; · iapply (mayWait (i := 2 * (s - 1) + 1) (b := 2 * s - 1) (by omega) (by omega) c (semOf (.crd r)) hl); iexact Hlev
    iexact Hat
  iintro %S ⟨%hS, HO, Hat, HS⟩
  have hd : (Rd m).duties (cell c (.crd r)) 0 = Finset.range 13 := Rd_duties m c (.crd r) (k := 0) Nat.one_pos
  have he : (Rd m).expect (cell c (.crd r)) 0 = 13 := Rd_expect m c (.crd r) (k := 0) Nat.one_pos
  obtain ⟨hTS, hSd, hcard⟩ := hS
  rw [hd] at hSd
  have hcard' : s - 2 + 1 + (Finset.range 13 \ S).card ≤ 13 := by rw [← hd, ← he]; exact hcard
  rw [Finset.card_sdiff_of_subset hSd, Finset.card_range] at hcard'
  have hle : S.card ≤ 13 := by have := Finset.card_le_card hSd; rwa [Finset.card_range] at this
  have hU : S = T ∪ (S \ T) := (Finset.union_sdiff_of_subset hTS).symm
  have hpay : (bigSep (S \ T) fun d => (Rd m).payload (cell c (.crd r)) 0 d) ⊢ (bigSep (S \ T) fun j => iprop(avail c r (j + 1) ∗ avail c r (j + 2)) : sProp 𝕄) :=
    bigSep_mono fun d _ => Entails.of_eq (Rd_payload m c (.crd r) 0 d)
  ihave #HS := hpay $$ HS
  have hall : iprop((bigSep T fun j => iprop(avail c r (j + 1) ∗ avail c r (j + 2))) ∗ bigSep (S \ T) fun j => iprop(avail c r (j + 1) ∗ avail c r (j + 2)))
      ⊢ (bigSep S fun j => iprop(avail c r (j + 1) ∗ avail c r (j + 2)) : sProp 𝕄) := by
    conv_rhs => rw [hU, bigSep_union Finset.disjoint_sdiff]
    exact .rfl
  ihave #HA := hall $$ []
  · isplitr; · iexact HT
    iexact HS
  have hmem : ∃ j ∈ S, s - 2 ≤ j := by
    by_contra hno
    push Not at hno
    have : S ⊆ Finset.range (s - 2) := fun j hj => Finset.mem_range.mpr (hno j hj)
    have := Finset.card_le_card this
    rw [Finset.card_range] at this
    omega
  obtain ⟨j, hj, hsj⟩ := hmem
  have hone : (bigSep S fun j => iprop(avail c r (j + 1) ∗ avail c r (j + 2)) : sProp 𝕄) ⊢ iprop(avail c r (j + 1) ∗ avail c r (j + 2)) := bigSep_elim hj
  ihave #HB := hone $$ HA
  icases HB with ⟨#HB1, #HB2⟩
  iapply Hk
  isplitl [HO]; · iexists _; iexact HO
  isplitl [Hat]
  · iexists S
    isplitr; · ipureintro; exact ⟨hSd, by omega⟩
    isplitl [Hat]
    · rw [show s - 1 = s - 2 + 1 by omega]; iexact Hat
    iexact HA
  by_cases hp : s % 2 = j % 2
  · iapply (avail_mono c r (s := s) (t := j + 2) (by omega) (by omega)); iexact HB2
  · iapply (avail_mono c r (s := s) (t := j + 1) (by omega) (by omega)); iexact HB1

/-! ## The remote copy -/

/-- The duties and the write of step `s`'s copy. -/
def sendTok (c : Dev nD) (r : Fin 4) (s : ℕ) : sProp 𝕄 :=
  iprop(dutyTok ER (cell c (.snd r (par s))) (s / 2) 0 ∗ dutyTok ER (cell (down r c) (.rcv r (par s))) (s / 2) 0
    ∗ Release.writeTok EQ (down r c, r, par s) (s / 2 + 1))

/-- A partial sum is sent downstream. -/
theorem send_wp (c : Dev nD) (r : Fin 4) {s : ℕ} (hs : s < 15) (k : KProg F) {l : List Pay} :
    iprop(records m K J ∗ owesL c ((cell (down r c) (.rcv r (par s)), 2 * s + 2, amtB) :: l) ∗ sndPos c r s ∗ sndFull c r s (acc m r s c) ∗ sendTok c r s ∗ avail c r s)
      ⊢ iprop((owesL c l ∗ sndBusy c r s -∗ WP c k Q) -∗ WP c (send S4b R5 cc0_scratch4 cc0_scratch5 c r s k) Q) := by
  unfold send owesL sndPos sendTok avail
  iintro ⟨#HI, ⟨%W, HO⟩, ⟨Hat, #Hr⟩, Hf, ⟨Ht1, Ht2, Hw⟩, #Hrel, #Hr2⟩ Hk
  imod (Release.slot_take EQ (S := any (down r c) (bufM R5 r (par s))) (Set.mem_univ (J (down r c, r, par s))) (s / 2 + 1)) $$ [Hw] with Hslot
  · isplitr; · iapply (slot_at m K J (down r c) r (par s)); iexact HI
    isplitr; · iexact Hrel
    iexact Hw
  unfold sndFull full owns any Release.slot
  icases Hf with ⟨%f, %hf, Hf⟩
  icases Hslot with ⟨%g, Hslot⟩
  iapply (Rounds.wp_send_pointsTo 𝒱₀ ER (Rd m) (c : Thread nD τ) none (c' := ((down r c : Dev nD) : Thread nD τ)) (κ₁ := K (c, .snd r (par s))) (κ₂ := K (down r c, .rcv r (par s)))
      (src := bufM S4b r (par s)) (dst := bufM R5 r (par s)) (sS := semOf (.snd r (par s))) (sem := semOf (.rcv r (par s)))
      (r₁ := s / 2) (r₂ := s / 2) (d₁ := 0) (d₂ := 0)
      (by rw [Rd_duties m c _ (snd_lt hs r)]; exact Finset.mem_singleton_self _) (by rw [Rd_duties m (down r c) _ (rcv_lt hs r)]; exact Finset.mem_singleton_self _)
      (2 * s + 2) 0 amtB rfl (Rd_amount m c _ _ _) (Rd_amount m (down r c) _ _ _) (tallyL l) (add_comm _ _) (W := W) (fs := f) (fd := g)
      (by
        rw [Rd_payload]; simp only [pay]; unfold any Release.slot
        iintro H; iexists f; iexact H)
      (by
        rw [Rd_payload]; simp only [pay, par_idx, up_down]; unfold full owns
        iintro H
        iexists _
        isplitr; · ipureintro; exact (View.read_write_univ g _).trans hf
        iexact H)) $$ [Hf Hslot HO Ht1 Ht2]
  · isplitr; · iapply (inv_at m K J c (.snd r (par s))); iexact HI
    isplitr; · iapply (inv_at m K J (down r c) (.rcv r (par s))); iexact HI
    isplitl [Hf]; · iexact Hf
    isplitl [Hslot]; · iexact Hslot
    isplitl [HO]; · iexact HO
    isplitl [Ht1]; · iexact Ht1
    isplitr; · iexact Hr
    isplitl [Ht2]; · iexact Ht2
    iexact Hr2
  iintro ⟨Hc, HO⟩
  iapply Hk
  isplitl [HO]; · iexists W; iexact HO
  unfold sndBusy
  isplitl [Hat]; · iexact Hat
  iexact Hc

/-! ## The result's columns -/

/-- Which use of a staging cell a ring's result leaves with. -/
def outT (r : Fin 4) : ℕ := 18 - 2 * (r.val % 2)

theorem outT_tri (r : Fin 4) : tri (outT r) = tri (r.val % 2) := by revert r; decide
theorem outT_lt (r : Fin 4) : outT r / 3 < rounds (.stg (row r) (tri (r.val % 2))) := by revert r; decide
theorem outT_idx (r : Fin 4) : ¬ (tri (r.val % 2)).val + 3 * (outT r / 3) < 16 := by revert r; decide
theorem ringOf_row (r : Fin 4) : ringOf (row r) (tri (r.val % 2)) = r := by revert r; decide

/-- The copy of a ring's result is under way. -/
def outBusy (c : Dev nD) (r : Fin 4) : sProp 𝕄 :=
  iprop(atPos ER (cell c (.stg (row r) (tri (outT r)))) (outT r / 3) ∅ 0 ∗ cred (tallyAt (cell c (.stg (row r) (tri (outT r)))) 0 amtO))
/-- A ring's columns of the result, at any contents and at the result. -/
def outAny (c : Dev nD) (r : Fin 4) : sProp 𝕄 := any c (outM O2 r)
def outFull (c : Dev nD) (r : Fin 4) : sProp 𝕄 := full c (outM O2 r) (res m c r)

theorem out_pay (c : Dev nD) (r : Fin 4) (d : ℕ) :
    pay m c (.stg (row r) (tri (r.val % 2))) (outT r / 3) d = iprop(outFull m c r ∗ sndAny c r 15) := by
  simp only [pay, outFull, sndAny]
  rw [dif_neg (outT_idx r), ringOf_row]; rfl
theorem out_amt (r : Fin 4) : amt (.stg (row r) (tri (r.val % 2))) (outT r / 3) = amtO := by
  simp only [amt]; rw [if_neg (outT_idx r)]

theorem outIssue_wp (c : Dev nD) (r : Fin 4) (k : KProg F) :
    iprop(records m K J ∗ stgFree c (row r) (outT r) ∗ stgTok c (row r) (outT r) ∗ sndFull c r 15 (res m c r) ∗ outAny c r)
      ⊢ iprop((outBusy c r -∗ WP c k Q) -∗ WP c (outIssue O2 S4b cc0_scratch3 r k) Q) := by
  unfold stgFree stgTok outBusy
  rw [outT_tri]
  unfold outIssue sndFull full owns outAny any Release.slot
  iintro ⟨#HI, ⟨Hat, Hr⟩, Ht, ⟨%f, %hf, Hf⟩, ⟨%g, Hg⟩⟩ Hk
  iapply (Rounds.wp_copy_pointsTo 𝒱₀ ER (Rd m) (c : Thread nD τ) none (κ := K (c, .stg (row r) (tri (r.val % 2)))) (r := outT r / 3) (d := 0)
      (src := bufM S4b r (par 15)) (dst := outM O2 r) (sem := semOf (.stg (row r) (tri (r.val % 2))))
      (by rw [Rd_duties m c (.stg (row r) (tri (r.val % 2))) (outT_lt r)]; exact Finset.mem_singleton_self _) 0 amtO rfl
      ((Rd_amount m c _ _ _).trans (out_amt r))
      (q := fullShare) (fs := f) (fd := g) (by
        rw [Rd_payload, out_pay]
        unfold outFull full owns sndAny any Release.slot
        iintro ⟨H, H'⟩
        isplitl [H]
        · iexists _
          isplitr; · ipureintro; exact (View.read_write_univ g _).trans hf
          iexact H
        iexists f; iexact H')) $$ [Hf Hg Ht Hr]
  · isplitr; · iapply (inv_at m K J c _); iexact HI
    isplitl [Hf]; · iexact Hf
    isplitl [Hg]; · iexact Hg
    isplitl [Ht]; · iexact Ht
    iexact Hr
  iintro Hc
  iapply Hk
  isplitl [Hat]; · iexact Hat
  iexact Hc

theorem outAwait_wp (c : Dev nD) (r : Fin 4) (k : KProg F) :
    iprop(records m K J ∗ owesL c [] ∗ outBusy c r)
      ⊢ iprop((owesL c [] ∗ stgFree c (row r) (outT r + 3) ∗ outFull m c r ∗ sndAny c r 15 -∗ WP c k Q) -∗ WP c (outAwait O2 S4b cc0_scratch3 r k) Q) := by
  unfold outBusy
  rw [outT_tri]
  unfold outAwait
  iintro ⟨#HI, HO, Hat, Hc⟩ Hk
  iapply (waitDma m K J c (.stg (row r) (tri (r.val % 2))) (R := outT r / 3) (outT_lt r) rfl
    (src := bufM S4b r (par 15)) (dst := outM O2 r) ((View.wordExact_bits rfl).reshape _ _) (View.wordExact_bits rfl) rfl ((amt4 r).trans (out_amt r).symm) (i := 0) (b := 0) le_rfl (by omega) Above.nil) $$ [HO Hat Hc]
  · isplitr; · iexact HI
    isplitl [Hc]; · rw [out_amt r]; iexact Hc
    isplitl [HO]; · iexact HO
    iexact Hat
  iintro ⟨HO, Hat, Hr, Hp⟩
  ihave Hp := (Entails.of_eq (out_pay m c r 0)) $$ Hp
  icases Hp with ⟨Hp, Hp'⟩
  iapply Hk
  isplitl [HO]; · iexact HO
  isplitl [Hat Hr]
  · unfold stgFree
    rw [show tri (outT r + 3) = tri (r.val % 2) from (outT_tri r) ▸ Fin.ext (by simp only [tri]; omega), show (outT r + 3) / 3 = outT r / 3 + 1 by omega]
    isplitl [Hat]; · iexact Hat
    iexact Hr
  isplitl [Hp]; · iexact Hp
  iexact Hp'

end Cert.KernelIdeal.Ring

end
-- ==== Proof.Rings.lean ====
/- A ring's step: its operations in order, from the state before step `s` to the state before step `s + 1`. -/
module

public import proofs.«01_k».proof.Proof.Ops

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

local notation "𝕄" => MT nD τ sig ℕ (Elt F) ℕ UU ℕ

variable (m : (ℓ : Loc nD τ sig) → Buf (Elt F) ℓ)
variable (K : Dev nD × Cx → ℕ) (J : Key → ℕ)
variable {Q : Post F}

/-! ## A ring's state before a step -/

/-- The send slot of step `t` before step `t`: in hand, or still being sent since step `t - 2`. -/
def sndSt (c : Dev nD) (r : Fin 4) (t : ℕ) : sProp 𝕄 :=
  if t < 2 then iprop(sndPos c r t ∗ sndAny c r t) else sndBusy c r (t - 2)
/-- The receive slot of step `t`, two steps ahead: given up for it, or kept after the last use. -/
def rcvNext (c : Dev nD) (r : Fin 4) (t : ℕ) : sProp 𝕄 :=
  if t < 15 then rcvSt c r t else iprop(rcvPos c r (t - 2) ∗ rcvAny c r (t - 2))
/-- What the upstream device is to be told at step `t`. -/
def upAvail (c : Dev nD) (r : Fin 4) (t : ℕ) : sProp 𝕄 := if t < 15 then avail (up r c) r t else iprop(emp)
/-- The credit given for the credit taken at step `t + 1`, if one is. -/
def crdNext (c : Dev nD) (r : Fin 4) (t : ℕ) : sProp 𝕄 := if 1 ≤ t ∧ t ≤ 13 then crdCred c r t else iprop(emp)

/-- A ring's state before step `s`, from 1 on. -/
def RingSt (c : Dev nD) (r : Fin 4) (s : ℕ) : sProp 𝕄 :=
  iprop(sndSt c r s ∗ sndSt c r (s + 1) ∗ rcvSt c r (s - 1) ∗ rcvNext c r s ∗ upAvail c r s ∗ avail c r 1 ∗ crdSt c r (s - 2)
    ∗ rcvCred c r (s - 1) ∗ crdNext c r (s - 1))

/-- A ring's state before step 0. -/
def RingSt0 (c : Dev nD) (r : Fin 4) : sProp 𝕄 :=
  iprop(sndSt c r 0 ∗ sndSt c r 1 ∗ rcvSt c r 0 ∗ rcvSt c r 1 ∗ avail (up r c) r 1 ∗ avail c r 0 ∗ avail c r 1 ∗ crdSt c r 0)

/-- What a ring spends at step `s`. -/
def ringToks (c : Dev nD) (r : Fin 4) (s : ℕ) : sProp 𝕄 :=
  iprop(sendTok c r s ∗ rcvCred c r s ∗ (if 1 ≤ s ∧ s ≤ 13 then iprop(crdTok c r s) else iprop(emp)) ∗ crdNext c r s)

/-- A ring's state at the end. -/
def RingEnd (c : Dev nD) (r : Fin 4) : sProp 𝕄 :=
  iprop(sndPos c r 15 ∗ sndPos c r 16 ∗ sndAny c r 16 ∗ rcvPos c r 13 ∗ rcvAny c r 13 ∗ rcvPos c r 14 ∗ rcvAny c r 14 ∗ crdSt c r 13)

/-- Waiting for a slot depends on the slot alone. -/
theorem sent_congr {a5 a4 : Memref sig .tc .vmem S4x2x512x1024 .f32} {a7 : DmaSems sig S4x2} (r : Fin 4) {s t : ℕ} (h : par s = par t) (k : KProg F) :
    sent a4 a5 a7 r s k = sent a4 a5 a7 r t k := by
  have aux : ∀ b b' : Fin 2, b = b' →
      (Prog.op (.waitDma2 (bufS a7 r b) (bufM a5 r b) (bufM a4 r b) ((View.wordExact_bits rfl).reshape _ _)
        ((View.wordExact_bits rfl).reshape _ _)) fun _ => k : KProg F)
        = Prog.op (.waitDma2 (bufS a7 r b') (bufM a5 r b') (bufM a4 r b') ((View.wordExact_bits rfl).reshape _ _)
        ((View.wordExact_bits rfl).reshape _ _)) fun _ => k := by
    intro b b' h; subst h; rfl
  exact aux _ _ h

theorem sndSt_lt (c : Dev nD) (r : Fin 4) {t : ℕ} (h : t < 2) : sndSt (F := F) c r t = iprop(sndPos c r t ∗ sndAny c r t) := if_pos h
theorem sndSt_ge (c : Dev nD) (r : Fin 4) {t : ℕ} (h : 2 ≤ t) : sndSt (F := F) c r t = sndBusy c r (t - 2) := if_neg (by omega)
theorem rcvNext_lt (c : Dev nD) (r : Fin 4) {t : ℕ} (h : t < 15) : rcvNext (F := F) c r t = rcvSt c r t := if_pos h
theorem rcvNext_ge (c : Dev nD) (r : Fin 4) {t : ℕ} (h : 15 ≤ t) :
    rcvNext (F := F) c r t = iprop(rcvPos c r (t - 2) ∗ rcvAny c r (t - 2)) := if_neg (by omega)
theorem upAvail_lt (c : Dev nD) (r : Fin 4) {t : ℕ} (h : t < 15) : upAvail (F := F) c r t = avail (up r c) r t := if_pos h
theorem upAvail_ge (c : Dev nD) (r : Fin 4) {t : ℕ} (h : 15 ≤ t) : upAvail (F := F) c r t = iprop(emp) := if_neg (by omega)

/-- The send slot of step `s` is free. -/
theorem sent2_wp (c : Dev nD) (r : Fin 4) {s : ℕ} (hs : s ≤ 14) (k : KProg F) {l : List Pay} (hl : Above 0 l) :
    iprop(records m K J ∗ owesL c l ∗ sndSt c r s)
      ⊢ iprop((owesL c l ∗ sndPos c r s ∗ sndAny c r s -∗ WP c k Q) -∗ WP c (sent2 S4b R5 cc0_scratch4 r s k) Q) := by
  unfold sent2
  rcases Nat.lt_or_ge s 2 with h | h
  · rw [sndSt_lt c r h, decide_eq_false (by omega), cond_false]
    iintro ⟨-, HO, Hp, Ha⟩ Hk
    iapply Hk
    isplitl [HO]; · iexact HO
    isplitl [Hp]; · iexact Hp
    iexact Ha
  · obtain ⟨t, rfl⟩ : ∃ t, s = t + 2 := ⟨s - 2, by omega⟩
    rw [sndSt_ge c r h, decide_eq_true h, cond_true, sent_congr r (par_add t), Nat.add_sub_cancel]
    exact sent_wp m K J c r (by omega) k hl

/-- The rest of the payments of a ring's step, the credit given. -/
theorem give_rest (c : Dev nD) (r : Fin 4) {s : ℕ} (h1 : 1 ≤ s) (h14 : s ≤ 14) (k : KProg F) {l : List Pay} :
    iprop(records m K J ∗ owesL c (ringPays c r s ++ l) ∗ rcvPos c r (s - 1) ∗ Release.readerAt EQ (c, r, par (s - 1)) ((s - 1) / 2 + 1) ∗ rcvAny c r (s - 1)
        ∗ upAvail c r s ∗ (if 1 ≤ s ∧ s ≤ 13 then iprop(crdTok c r s) else iprop(emp)))
      ⊢ iprop((owesL c ((cell (down r c) (.rcv r (par s)), 2 * s + 2, amtB) :: l) ∗ rcvNext c r (s + 1) ∗ upAvail c r (s + 1) -∗ WP c k Q)
          -∗ WP c (give cc0_scratch6 c r s k) Q) := by
  unfold ringPays
  rcases Nat.lt_or_ge 13 s with h | h
  · obtain rfl : s = 14 := by omega
    rw [rcvNext_ge c r (show 15 ≤ 14 + 1 by omega), upAvail_ge c r (show 15 ≤ 14 + 1 by omega)]
    iintro ⟨-, HO, Hp, -, Ha, -, -⟩ Hk
    unfold give
    iapply Hk
    isplitl [HO]; · iexact HO
    isplitl [Hp Ha]
    · isplitl [Hp]; · iexact Hp
      iexact Ha
    iempintro
  · rw [if_pos (show 1 ≤ s ∧ s ≤ 13 from ⟨h1, h⟩), if_pos (show 1 ≤ s ∧ s ≤ 13 from ⟨h1, h⟩), upAvail_lt c r (show s < 15 by omega), upAvail_lt c r (show s + 1 < 15 by omega),
      rcvNext_lt c r (show s + 1 < 15 by omega), show s + 1 = (s - 1) + 2 by omega]
    iintro ⟨#HI, HO, Hp, Hre, Ha, #Hav, Ht⟩ Hk
    imod (free_next m K J c r (s - 1)) $$ [Hp Hre Ha] with ⟨Hst, #Hav2⟩
    · isplitr; · iexact HI
      isplitl [Hp]; · iexact Hp
      isplitl [Hre]; · iexact Hre
      iexact Ha
    iapply (give_wp m K J c r h1 h k (l := (cell (down r c) (.rcv r (par s)), 2 * s + 2, amtB) :: l)) $$ [HO Ht]
    · isplitr; · iexact HI
      isplitl [HO]; · iexact HO
      isplitl [Ht]; · iexact Ht
      isplitr; · iexact Hav
      rw [show s + 1 = (s - 1) + 2 by omega]; iexact Hav2
    iintro HO
    iapply Hk
    isplitl [HO]; · iexact HO
    isplitl [Hst]; · iexact Hst
    iexact Hav2

/-- From step 2 on a credit is taken; either way the slot downstream is free. -/
theorem take_rest (c : Dev nD) (r : Fin 4) {s : ℕ} (h1 : 1 ≤ s) (h14 : s ≤ 14) (k : KProg F) {l : List Pay} (hl : Above (2 * s - 1) l) :
    iprop(records m K J ∗ owesL c l ∗ crdSt c r (s - 2) ∗ crdNext c r (s - 1) ∗ avail c r 1)
      ⊢ iprop((owesL c l ∗ crdSt c r (s + 1 - 2) ∗ avail c r s -∗ WP c k Q) -∗ WP c (take cc0_scratch6 r s k) Q) := by
  unfold crdNext
  rcases Nat.lt_or_ge s 2 with h | h
  · obtain rfl : s = 1 := by omega
    unfold take
    iintro ⟨-, HO, Hc, -, Ha⟩ Hk
    iapply Hk
    isplitl [HO]; · iexact HO
    isplitl [Hc]; · iexact Hc
    iexact Ha
  · rw [if_pos (by omega), show s + 1 - 2 = s - 1 by omega]
    iintro ⟨#HI, HO, Hc, Hcr, -⟩ Hk
    iapply (take_wp m K J c r h h14 k hl) $$ [HO Hc Hcr]
    · isplitr; · iexact HI
      isplitl [HO]; · iexact HO
      isplitl [Hc]; · iexact Hc
      iexact Hcr
    iexact Hk

/-- A ring's step. -/
theorem ringStep_wp (c : Dev nD) (r : Fin 4) {s : ℕ} (h1 : 1 ≤ s) (h14 : s ≤ 14) (k : KProg F) {l : List Pay} (hl : Above (2 * s) l) :
    iprop(records m K J ∗ owesL c (ringPays c r s ++ l) ∗ stgFull m c (row r) s ∗ wPts m c ∗ RingSt c r s ∗ ringToks c r s)
      ⊢ iprop((owesL c l ∗ stgFull m c (row r) s ∗ wPts m c ∗ RingSt c r (s + 1) -∗ WP c k Q)
          -∗ WP c (ringStep W1 X3 S4b R5 cc0_scratch4 cc0_scratch5 cc0_scratch6 c s r k) Q) := by
  have hP : Above (2 * s) (ringPays c r s ++ l) := (ringPays_above c r (by omega)).append hl
  have hP' : Above (2 * s) ((cell (down r c) (.rcv r (par s)), 2 * s + 2, amtB) :: l) := fun p hp => by
    rcases List.mem_cons.mp hp with rfl | hp
    · exact ⟨rfl, by dsimp only; omega, by dsimp only; omega⟩
    · exact hl p hp
  unfold ringStep RingSt ringToks
  iintro ⟨#HI, HO, Hx, Hw, ⟨Hs1, Hs2, Hr1, Hr2, Hup, #Ha1, Hcs, Hrc, Hcc⟩, ⟨Ht, Hrc', Hct, Hcc'⟩⟩ Hk
  iapply (part_wp m c r s _) $$ [Hx Hw]
  · isplitl [Hx] <;> iassumption
  iintro ⟨Hx, Hw⟩
  iapply (sent2_wp m K J c r h14 _ (hP.mono (Nat.zero_le _))) $$ [HO Hs1]
  · isplitr; · iexact HI
    isplitl [HO] <;> iassumption
  iintro ⟨HO, Hsp, Hsa⟩
  iapply (recvd_wp m K J c r (t := s - 1) (by omega) _ (l := ringPays c r s ++ l) (hP.mono (by omega))) $$ [HO Hr1 Hrc]
  · isplitr; · iexact HI
    isplitl [HO]; · iexact HO
    isplitl [Hr1] <;> iassumption
  iintro %v ⟨%hv, HO, Hrp, Hre, Hra⟩
  have hacc : plus v (term m c r s) = acc m r s c := by
    obtain ⟨t, rfl⟩ : ∃ t, s = t + 1 := ⟨s - 1, by omega⟩
    rw [hv]; rfl
  rw [hacc]
  iapply (put_wp c r s _ _) $$ Hsa
  iintro Hsf
  iapply (give_rest m K J c r h1 h14 _ (l := l)) $$ [HO Hrp Hre Hra Hup Hct]
  · isplitr; · iexact HI
    isplitl [HO]; · iexact HO
    isplitl [Hrp]; · iexact Hrp
    isplitl [Hre]; · iexact Hre
    isplitl [Hra]; · iexact Hra
    isplitl [Hup] <;> iassumption
  iintro ⟨HO, Hrn, Hup⟩
  iapply (take_rest m K J c r h1 h14 _ (hP'.mono (by omega))) $$ [HO Hcs Hcc]
  · isplitr; · iexact HI
    isplitl [HO]; · iexact HO
    isplitl [Hcs]; · iexact Hcs
    isplitl [Hcc]; · iexact Hcc
    iexact Ha1
  iintro ⟨HO, Hcs, #Ha⟩
  iapply (send_wp m K J c r (s := s) (by omega) _ (l := l)) $$ [HO Hsp Hsf Ht]
  · isplitr; · iexact HI
    isplitl [HO]; · iexact HO
    isplitl [Hsp]; · iexact Hsp
    isplitl [Hsf]; · iexact Hsf
    isplitl [Ht]; · iexact Ht
    iexact Ha
  iintro ⟨HO, Hb⟩
  iapply Hk
  isplitl [HO]; · iexact HO
  isplitl [Hx]; · iexact Hx
  isplitl [Hw]; · iexact Hw
  isplitl [Hs2]; · iexact Hs2
  isplitl [Hb]
  · iapply (show sndBusy c r s ⊢ (sndSt c r (s + 1 + 1) : sProp 𝕄) from Entails.of_eq (by rw [sndSt_ge c r (by omega)]; rfl)); iexact Hb
  isplitl [Hr2]
  · iapply (show rcvNext c r s ⊢ (rcvSt c r (s + 1 - 1) : sProp 𝕄) from Entails.of_eq (rcvNext_lt c r (by omega))); iexact Hr2
  isplitl [Hrn]; · iexact Hrn
  isplitl [Hup]; · iexact Hup
  isplitr; · iexact Ha1
  isplitl [Hcs]; · iexact Hcs
  isplitl [Hrc']; · iexact Hrc'
  iexact Hcc'

/-- A ring's step 0. -/
theorem ring0_wp (c : Dev nD) (r : Fin 4) (k : KProg F) {l : List Pay} :
    iprop(records m K J ∗ owesL c (ringPays c r 0 ++ l) ∗ stgFull m c (row r) 0 ∗ wPts m c ∗ RingSt0 c r ∗ ringToks c r 0)
      ⊢ iprop((owesL c l ∗ stgFull m c (row r) 0 ∗ wPts m c ∗ RingSt c r 1 -∗ WP c k Q)
          -∗ WP c (ring0 W1 X3 S4b R5 cc0_scratch4 cc0_scratch5 c r k) Q) := by
  unfold ring0 RingSt0 RingSt ringToks
  rw [sndSt_lt c r (show 0 < 2 by omega), sndSt_ge c r (show 2 ≤ 1 + 1 by omega), rcvNext_lt c r (show 1 < 15 by omega), upAvail_lt c r (show 1 < 15 by omega)]
  iintro ⟨#HI, HO, Hx, Hw, ⟨Hs1, Hs2, Hr1, Hr2, #Hup, #Ha0, #Ha1, Hcs⟩, ⟨Ht, Hrc', -, -⟩⟩ Hk
  iapply (part_wp m c r 0 _) $$ [Hx Hw]
  · isplitl [Hx] <;> iassumption
  iintro ⟨Hx, Hw⟩
  icases Hs1 with ⟨Hsp, Hsa⟩
  iapply (put_wp c r 0 _ _) $$ Hsa
  iintro Hsf
  iapply (send_wp m K J c r (s := 0) (by omega) _ (l := l)) $$ [HO Hsp Hsf Ht]
  · isplitr; · iexact HI
    isplitl [HO]; · iexact HO
    isplitl [Hsp]; · iexact Hsp
    isplitl [Hsf]; · iexact Hsf
    isplitl [Ht]; · iexact Ht
    iexact Ha0
  iintro ⟨HO, Hb⟩
  iapply Hk
  isplitl [HO]; · iexact HO
  isplitl [Hx]; · iexact Hx
  isplitl [Hw]; · iexact Hw
  isplitl [Hs2]; · iexact Hs2
  isplitl [Hb]; · iexact Hb
  isplitl [Hr1]; · iexact Hr1
  isplitl [Hr2]; · iexact Hr2
  isplitr; · iexact Hup
  isplitr; · iexact Ha1
  isplitl [Hcs]; · iexact Hcs
  isplitl [Hrc']; · iexact Hrc'
  unfold crdNext
  iempintro

/-- A ring's last step. -/
theorem ringEnd_wp (c : Dev nD) (r : Fin 4) (k : KProg F) :
    iprop(records m K J ∗ owesL c [] ∗ stgFull m c (row r) 15 ∗ wPts m c ∗ RingSt c r 15
        ∗ stgFree c (row r) (outT r) ∗ stgTok c (row r) (outT r) ∗ outAny c r)
      ⊢ iprop((owesL c [] ∗ stgFull m c (row r) 15 ∗ wPts m c ∗ RingEnd c r ∗ outBusy c r -∗ WP c k Q)
          -∗ WP c (ringEnd W1 O2 X3 S4b R5 cc0_scratch3 cc0_scratch4 cc0_scratch5 r k) Q) := by
  unfold ringEnd RingSt
  rw [sndSt_ge c r (show 2 ≤ 15 by omega), sndSt_ge c r (show 2 ≤ 15 + 1 by omega), rcvNext_ge c r (show 15 ≤ 15 by omega)]
  iintro ⟨#HI, HO, Hx, Hw, ⟨Hs1, Hs2, Hr1, Hr2, -, -, Hcs, Hrc, -⟩, Hf, Ht, Ho⟩ Hk
  iapply (part_wp m c r 15 _) $$ [Hx Hw]
  · isplitl [Hx] <;> iassumption
  iintro ⟨Hx, Hw⟩
  iapply (sent_wp m K J c r (t := 13) (by omega) _ Above.nil) $$ [HO Hs1]
  · isplitr; · iexact HI
    isplitl [HO]; · iexact HO
    iexact Hs1
  iintro ⟨HO, Hp1, Hsa⟩
  iapply (sent_wp m K J c r (t := 14) (by omega) _ Above.nil) $$ [HO Hs2]
  · isplitr; · iexact HI
    isplitl [HO]; · iexact HO
    iexact Hs2
  iintro ⟨HO, Hp2, Hsa2⟩
  iapply (recvd_wp m K J c r (t := 14) (by omega) _ Above.nil) $$ [HO Hr1 Hrc]
  · isplitr; · iexact HI
    isplitl [HO]; · iexact HO
    isplitl [Hr1]; · iexact Hr1
    iexact Hrc
  iintro %v ⟨%hv, HO, Hrp, -, Hra⟩
  have hacc : plus v (term m c r 15) = acc m r 15 c := hv _
  rw [hacc]
  iapply (put_wp c r 15 _ _) $$ Hsa
  iintro Hsf
  iapply (outIssue_wp m K J c r _) $$ [Hf Ht Hsf Ho]
  · isplitr; · iexact HI
    isplitl [Hf]; · iexact Hf
    isplitl [Ht]; · iexact Ht
    isplitl [Hsf]; · iexact Hsf
    iexact Ho
  iintro Hob
  iapply Hk
  isplitl [HO]; · iexact HO
  isplitl [Hx]; · iexact Hx
  isplitl [Hw]; · iexact Hw
  isplitr [Hob]
  · unfold RingEnd
    icases Hr2 with ⟨Hq1, Hq2⟩
    isplitl [Hp1]; · iexact Hp1
    isplitl [Hp2]; · iexact Hp2
    isplitl [Hsa2]; · iexact Hsa2
    isplitl [Hq1]; · iexact Hq1
    isplitl [Hq2]; · iexact Hq2
    isplitl [Hrp]; · iexact Hrp
    isplitl [Hra]; · iexact Hra
    iexact Hcs
  iexact Hob

end Cert.KernelIdeal.Ring

end
-- ==== Proof.Body.lean ====
/- A step on all four rings, all steps, and the whole body. -/
module

public import proofs.«01_k».proof.Proof.Rings

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

local notation "𝕄" => MT nD τ sig ℕ (Elt F) ℕ UU ℕ

variable (m : (ℓ : Loc nD τ sig) → Buf (Elt F) ℓ)
variable (K : Dev nD × Cx → ℕ) (J : Key → ℕ)
variable {Q : Post F}

/-- A resource of each ring, in the order in which a step handles the rings. -/
def four (P : Fin 4 → sProp 𝕄) : sProp 𝕄 := iprop(P 0 ∗ P 2 ∗ P 1 ∗ P 3)
/-- A resource of each direction. -/
def both (P : Fin 2 → sProp 𝕄) : sProp 𝕄 := iprop(P 0 ∗ P 1)

/-- What all four rings share at step `s`: the staged row blocks and the weights. -/
def shared (c : Dev nD) (s : ℕ) : sProp 𝕄 := iprop(stgFull m c 0 s ∗ stgFull m c 1 s ∗ wPts m c)

/-- One row's block out of the two. -/
theorem shared_row (c : Dev nD) (s : ℕ) (r : Fin 4) :
    shared m c s ⊢ iprop(stgFull m c (row r) s ∗ wPts m c ∗ (stgFull m c (row r) s ∗ wPts m c -∗ shared m c s)) := by
  unfold shared
  have h : row r = 0 ∨ row r = 1 := by generalize row r = e; revert e; decide
  rcases h with h | h <;> rw [h]
  · iintro ⟨H0, H1, Hw⟩
    isplitl [H0]; · iexact H0
    isplitl [Hw]; · iexact Hw
    iintro ⟨H0, Hw⟩
    isplitl [H0]; · iexact H0
    isplitl [H1]; · iexact H1
    iexact Hw
  · iintro ⟨H0, H1, Hw⟩
    isplitl [H1]; · iexact H1
    isplitl [Hw]; · iexact Hw
    iintro ⟨H1, Hw⟩
    isplitl [H0]; · iexact H0
    isplitl [H1]; · iexact H1
    iexact Hw

/-- Four rings one after the other: what holds of each holds of all. -/
theorem rings_wp (c : Dev nD) (f : Fin 4 → KProg F → KProg F) (R : sProp 𝕄) (O : List Pay → sProp 𝕄) (P P' : Fin 4 → sProp 𝕄) (ps : Fin 4 → List Pay)
    {b : ℕ} (hps : ∀ r, Above b (ps r))
    (h : ∀ r k l, Above b l → iprop(R ∗ O (ps r ++ l) ∗ P r) ⊢ iprop((R ∗ O l ∗ P' r -∗ WP c k Q) -∗ WP c (f r k) Q))
    (k : KProg F) {l : List Pay} (hl : Above b l) :
    iprop(R ∗ O (ps 0 ++ (ps 2 ++ (ps 1 ++ (ps 3 ++ l)))) ∗ four P) ⊢ iprop((R ∗ O l ∗ four P' -∗ WP c k Q) -∗ WP c (rings f k) Q) := by
  have h3 := (hps 3).append hl
  have h1 := (hps 1).append h3
  have h2 := (hps 2).append h1
  unfold rings four
  iintro ⟨HR, HO, P0, P2, P1, P3⟩ Hk
  iapply (h 0 (f 2 (f 1 (f 3 k))) _ h2) $$ [HR HO P0]
  · isplitl [HR]; · iexact HR
    isplitl [HO] <;> iassumption
  iintro ⟨HR, HO, P0⟩
  iapply (h 2 (f 1 (f 3 k)) _ h1) $$ [HR HO P2]
  · isplitl [HR]; · iexact HR
    isplitl [HO] <;> iassumption
  iintro ⟨HR, HO, P2⟩
  iapply (h 1 (f 3 k) _ h3) $$ [HR HO P1]
  · isplitl [HR]; · iexact HR
    isplitl [HO] <;> iassumption
  iintro ⟨HR, HO, P1⟩
  iapply (h 3 k _ hl) $$ [HR HO P3]
  · isplitl [HR]; · iexact HR
    isplitl [HO] <;> iassumption
  iintro ⟨HR, HO, P3⟩
  iapply Hk
  isplitl [HR]; · iexact HR
  isplitl [HO]; · iexact HO
  isplitl [P0]; · iexact P0
  isplitl [P2]; · iexact P2
  isplitl [P1]; · iexact P1
  iexact P3

/-- The four rings' step `s`. -/
theorem ringSteps_wp (c : Dev nD) {s : ℕ} (h1 : 1 ≤ s) (h14 : s ≤ 14) (k : KProg F) {l : List Pay} (hl : Above (2 * s) l) :
    iprop(records m K J ∗ shared m c s ∗ owesL c (stepPays c s ++ l) ∗ four (fun r => iprop(RingSt c r s ∗ ringToks c r s)))
      ⊢ iprop((shared m c s ∗ owesL c l ∗ four (fun r => RingSt c r (s + 1)) -∗ WP c k Q)
          -∗ WP c (rings (ringStep W1 X3 S4b R5 cc0_scratch4 cc0_scratch5 cc0_scratch6 c s) k) Q) := by
  have e : stepPays c s ++ l = ringPays c 0 s ++ (ringPays c 2 s ++ (ringPays c 1 s ++ (ringPays c 3 s ++ l))) := by
    simp only [stepPays, List.append_assoc]
  rw [e]
  iintro ⟨#HI, Hsh, HO, HP⟩ Hk
  iapply (rings_wp c (ringStep W1 X3 S4b R5 cc0_scratch4 cc0_scratch5 cc0_scratch6 c s) iprop(records m K J ∗ shared m c s) (fun l => owesL c l)
    (fun r => iprop(RingSt c r s ∗ ringToks c r s)) (fun r => RingSt c r (s + 1)) (fun r => ringPays c r s)
    (fun r => ringPays_above c r (by omega)) (fun r k l hl => ?_) k hl) $$ [Hsh HO HP]
  · iintro ⟨⟨#HI, Hsh⟩, HO, Hst, Ht⟩ Hk
    ihave Hsh := (shared_row m c s r) $$ Hsh
    icases Hsh with ⟨Hx, Hw, Hcl⟩
    iapply (ringStep_wp m K J c r h1 h14 k hl) $$ [Hx Hw HO Hst Ht]
    · isplitr; · iexact HI
      isplitl [HO]; · iexact HO
      isplitl [Hx]; · iexact Hx
      isplitl [Hw]; · iexact Hw
      isplitl [Hst] <;> iassumption
    iintro ⟨HO, Hx, Hw, Hst⟩
    iapply Hk
    isplitl [Hx Hw Hcl]
    · isplitr; · iexact HI
      iapply Hcl
      isplitl [Hx] <;> iassumption
    isplitl [HO] <;> iassumption
  · isplitl [Hsh]
    · isplitr; · iexact HI
      iexact Hsh
    isplitl [HO] <;> iassumption
  iintro ⟨⟨-, Hsh⟩, HO, HP⟩
  iapply Hk
  isplitl [Hsh]; · iexact Hsh
  isplitl [HO] <;> iassumption

/-- The four rings' step 0. -/
theorem rings0_wp (c : Dev nD) (k : KProg F) {l : List Pay} (hl : Above 0 l) :
    iprop(records m K J ∗ shared m c 0 ∗ owesL c (stepPays c 0 ++ l) ∗ four (fun r => iprop(RingSt0 c r ∗ ringToks c r 0)))
      ⊢ iprop((shared m c 0 ∗ owesL c l ∗ four (fun r => RingSt c r 1) -∗ WP c k Q)
          -∗ WP c (rings (ring0 W1 X3 S4b R5 cc0_scratch4 cc0_scratch5 c) k) Q) := by
  have e : stepPays c 0 ++ l = ringPays c 0 0 ++ (ringPays c 2 0 ++ (ringPays c 1 0 ++ (ringPays c 3 0 ++ l))) := by
    simp only [stepPays, List.append_assoc]
  rw [e]
  iintro ⟨#HI, Hsh, HO, HP⟩ Hk
  iapply (rings_wp c (ring0 W1 X3 S4b R5 cc0_scratch4 cc0_scratch5 c) iprop(records m K J ∗ shared m c 0) (fun l => owesL c l)
    (fun r => iprop(RingSt0 c r ∗ ringToks c r 0)) (fun r => RingSt c r 1) (fun r => ringPays c r 0)
    (fun r => ringPays_above c r (by omega)) (fun r k l hl => ?_) k hl) $$ [Hsh HO HP]
  · iintro ⟨⟨#HI, Hsh⟩, HO, Hst, Ht⟩ Hk
    ihave Hsh := (shared_row m c 0 r) $$ Hsh
    icases Hsh with ⟨Hx, Hw, Hcl⟩
    iapply (ring0_wp m K J c r k) $$ [Hx Hw HO Hst Ht]
    · isplitr; · iexact HI
      isplitl [HO]; · iexact HO
      isplitl [Hx]; · iexact Hx
      isplitl [Hw]; · iexact Hw
      isplitl [Hst] <;> iassumption
    iintro ⟨HO, Hx, Hw, Hst⟩
    iapply Hk
    isplitl [Hx Hw Hcl]
    · isplitr; · iexact HI
      iapply Hcl
      isplitl [Hx] <;> iassumption
    isplitl [HO] <;> iassumption
  · isplitl [Hsh]
    · isplitr; · iexact HI
      iexact Hsh
    isplitl [HO] <;> iassumption
  iintro ⟨⟨-, Hsh⟩, HO, HP⟩
  iapply Hk
  isplitl [Hsh]; · iexact Hsh
  isplitl [HO] <;> iassumption

/-- What a ring brings to its last step. -/
def outRes (c : Dev nD) (r : Fin 4) : sProp 𝕄 := iprop(stgFree c (row r) (outT r) ∗ stgTok c (row r) (outT r) ∗ outAny c r)

/-- The four rings' last step. -/
theorem ringsEnd_wp (c : Dev nD) (k : KProg F) :
    iprop(records m K J ∗ shared m c 15 ∗ owesL c [] ∗ four (fun r => iprop(RingSt c r 15 ∗ outRes c r)))
      ⊢ iprop((shared m c 15 ∗ owesL c [] ∗ four (fun r => iprop(RingEnd c r ∗ outBusy c r)) -∗ WP c k Q)
          -∗ WP c (rings (ringEnd W1 O2 X3 S4b R5 cc0_scratch3 cc0_scratch4 cc0_scratch5) k) Q) := by
  iintro ⟨#HI, Hsh, HO, HP⟩ Hk
  iapply (rings_wp c (ringEnd W1 O2 X3 S4b R5 cc0_scratch3 cc0_scratch4 cc0_scratch5) iprop(records m K J ∗ shared m c 15) (fun _ => owesL c [])
    (fun r => iprop(RingSt c r 15 ∗ outRes c r)) (fun r => iprop(RingEnd c r ∗ outBusy c r)) (fun _ => []) (b := 0)
    (fun r => Above.nil) (fun r k l hl => ?_) k (l := []) Above.nil) $$ [Hsh HO HP]
  · unfold outRes
    iintro ⟨⟨#HI, Hsh⟩, HO, Hst, Hf, Ht, Ha⟩ Hk
    ihave Hsh := (shared_row m c 15 r) $$ Hsh
    icases Hsh with ⟨Hx, Hw, Hcl⟩
    iapply (ringEnd_wp m K J c r k) $$ [Hx Hw HO Hst Hf Ht Ha]
    · isplitr; · iexact HI
      isplitl [HO]; · iexact HO
      isplitl [Hx]; · iexact Hx
      isplitl [Hw]; · iexact Hw
      isplitl [Hst]; · iexact Hst
      isplitl [Hf]; · iexact Hf
      isplitl [Ht] <;> iassumption
    iintro ⟨HO, Hx, Hw, Hst, Hb⟩
    iapply Hk
    isplitl [Hx Hw Hcl]
    · isplitr; · iexact HI
      iapply Hcl
      isplitl [Hx] <;> iassumption
    isplitl [HO]; · iexact HO
    isplitl [Hst] <;> iassumption
  · isplitl [Hsh]
    · isplitr; · iexact HI
      iexact Hsh
    isplitl [HO] <;> iassumption
  iintro ⟨⟨-, Hsh⟩, HO, HP⟩
  iapply Hk
  isplitl [Hsh]; · iexact Hsh
  isplitl [HO] <;> iassumption

/-- What a ring has once its result has left. -/
def outRes' (c : Dev nD) (r : Fin 4) : sProp 𝕄 := iprop(stgFree c (row r) (outT r + 3) ∗ outFull m c r ∗ sndAny c r 15)

/-- The waits for the four rings' result columns. -/
theorem outAwaits_wp (c : Dev nD) (k : KProg F) :
    iprop(records m K J ∗ owesL c [] ∗ four (fun r => outBusy c r))
      ⊢ iprop((owesL c [] ∗ four (fun r => outRes' m c r) -∗ WP c k Q) -∗ WP c (rings (outAwait O2 S4b cc0_scratch3) k) Q) := by
  iintro ⟨#HI, HO, HP⟩ Hk
  iapply (rings_wp c (outAwait O2 S4b cc0_scratch3) (records m K J) (fun _ => owesL c [])
    (fun r => outBusy c r) (fun r => outRes' m c r) (fun _ => []) (b := 0)
    (fun r => Above.nil) (fun r k l hl => ?_) k (l := []) Above.nil) $$ [HO HP]
  · unfold outRes'
    iintro ⟨#HI, HO, Hb⟩ Hk
    iapply (outAwait_wp m K J c r k) $$ [HO Hb]
    · isplitr; · iexact HI
      isplitl [HO] <;> iassumption
    iintro ⟨HO, H⟩
    iapply Hk
    isplitr; · iexact HI
    isplitl [HO] <;> iassumption
  · isplitr; · iexact HI
    isplitl [HO] <;> iassumption
  iintro ⟨-, HO, HP⟩
  iapply Hk
  isplitl [HO] <;> iassumption

/-! ## Staging -/

/-- The start of both directions' copies of step `s`. -/
theorem issue_wp (c : Dev nD) (s : Fin 16) (k : KProg F) :
    iprop(records m K J ∗ both (fun e => iprop(stgFree c e s.val ∗ stgAny c e s.val)) ∗ both (fun e => stgTok c e s.val) ∗ xPts m c)
      ⊢ iprop((both (fun e => stgBusy c e s.val) ∗ xPts m c -∗ WP c k Q) -∗ WP c (issue A0 X3 cc0_scratch3 c s k) Q) := by
  unfold issue both
  iintro ⟨#HI, ⟨⟨Hf0, Ha0⟩, ⟨Hf1, Ha1⟩⟩, ⟨Ht0, Ht1⟩, Hx⟩ Hk
  iapply (issue1_wp m K J c 0 s _) $$ [Hf0 Ha0 Ht0 Hx]
  · isplitr; · iexact HI
    isplitl [Hf0]; · iexact Hf0
    isplitl [Ha0]; · iexact Ha0
    isplitl [Ht0] <;> iassumption
  iintro ⟨Hb0, Hx⟩
  iapply (issue1_wp m K J c 1 s _) $$ [Hf1 Ha1 Ht1 Hx]
  · isplitr; · iexact HI
    isplitl [Hf1]; · iexact Hf1
    isplitl [Ha1]; · iexact Ha1
    isplitl [Ht1] <;> iassumption
  iintro ⟨Hb1, Hx⟩
  iapply Hk
  isplitr [Hx]
  · isplitl [Hb0] <;> iassumption
  iexact Hx

/-- The wait for both. -/
theorem await_wp (c : Dev nD) (s : Fin 16) (k : KProg F) {l : List Pay} (hl : Above 0 l) :
    iprop(records m K J ∗ owesL c l ∗ both (fun e => stgBusy c e s.val))
      ⊢ iprop((owesL c l ∗ both (fun e => stgFree c e (s.val + 3)) ∗ both (fun e => stgFull m c e s.val) -∗ WP c k Q)
          -∗ WP c (await A0 X3 cc0_scratch3 c s k) Q) := by
  unfold await both
  iintro ⟨#HI, HO, ⟨Hb0, Hb1⟩⟩ Hk
  iapply (await1_wp m K J c 0 s _ hl) $$ [HO Hb0]
  · isplitr; · iexact HI
    isplitl [HO] <;> iassumption
  iintro ⟨HO, Hf0, Hx0⟩
  iapply (await1_wp m K J c 1 s _ hl) $$ [HO Hb1]
  · isplitr; · iexact HI
    isplitl [HO] <;> iassumption
  iintro ⟨HO, Hf1, Hx1⟩
  iapply Hk
  isplitl [HO]; · iexact HO
  isplitl [Hf0 Hf1]
  · isplitl [Hf0] <;> iassumption
  isplitl [Hx0] <;> iassumption

/-- A staged slot, at whatever it holds, is the slot of the step three later. -/
theorem stgAny_of_full (c : Dev nD) (e : Fin 2) (s : ℕ) : stgFull m c e s ⊢ (stgAny c e (s + 3) : sProp 𝕄) := by
  unfold stgFull stgAny
  rw [show tri (s + 3) = tri s from Fin.ext (Nat.add_mod_right s 3)]
  exact any_of_full _ _ _

/-- A staging slot free for step `t`'s copy. -/
def stgIdle (c : Dev nD) (e : Fin 2) (t : ℕ) : sProp 𝕄 := iprop(stgFree c e t ∗ stgAny c e t)

/-- The copy of step `t` under way, or its slot idle if there is none. -/
def stgNext (c : Dev nD) (e : Fin 2) (t : ℕ) : sProp 𝕄 := if t < 16 then stgBusy c e t else stgIdle c e t

/-- One direction's staging before step `s`. -/
def StgSt (c : Dev nD) (e : Fin 2) (s : ℕ) : sProp 𝕄 := iprop(stgIdle c e (s + 2) ∗ stgBusy c e s ∗ stgNext c e (s + 1))

/-- The duties of the copies started at step `s`. -/
def stgToks (c : Dev nD) (s : ℕ) : sProp 𝕄 := if s + 2 < 16 then both fun e => stgTok c e (s + 2) else iprop(emp)

/-- The state before step `s`. -/
def LoopSt (c : Dev nD) (s : ℕ) : sProp 𝕄 := iprop(both (fun e => StgSt c e s) ∗ xPts m c ∗ wPts m c ∗ four (fun r => RingSt c r s))

/-- What step `s` spends. -/
def stepToks (c : Dev nD) (s : ℕ) : sProp 𝕄 := iprop(stgToks c s ∗ four (fun r => ringToks c r s))

theorem four_sep (P P' : Fin 4 → sProp 𝕄) : iprop(four P ∗ four P') ⊣⊢ four fun r => iprop(P r ∗ P' r) := by
  unfold four
  isplit
  · iintro ⟨⟨A0, A2, A1, A3⟩, ⟨B0, B2, B1, B3⟩⟩
    isplitl [A0 B0]; · isplitl [A0] <;> iassumption
    isplitl [A2 B2]; · isplitl [A2] <;> iassumption
    isplitl [A1 B1]; · isplitl [A1] <;> iassumption
    isplitl [A3] <;> iassumption
  · iintro ⟨⟨A0, B0⟩, ⟨A2, B2⟩, ⟨A1, B1⟩, ⟨A3, B3⟩⟩
    isplitl [A0 A2 A1 A3]
    · isplitl [A0]; · iexact A0
      isplitl [A2]; · iexact A2
      isplitl [A1] <;> iassumption
    isplitl [B0]; · iexact B0
    isplitl [B2]; · iexact B2
    isplitl [B1] <;> iassumption

/-- The start of the copies of step `s + 2`, if there are any. -/
theorem issue2_wp (c : Dev nD) {s : ℕ} (k : KProg F) :
    iprop(records m K J ∗ both (fun e => stgIdle c e (s + 2)) ∗ stgToks c s ∗ xPts m c)
      ⊢ iprop((both (fun e => stgNext c e (s + 2)) ∗ xPts m c -∗ WP c k Q)
          -∗ WP c (if h : s + 2 < 16 then issue A0 X3 cc0_scratch3 c ⟨s + 2, h⟩ k else k) Q) := by
  unfold stgToks stgNext
  rcases Nat.lt_or_ge (s + 2) 16 with h | h
  · rw [dif_pos h, if_pos h]
    refine (issue_wp m K J (Q := Q) c ⟨s + 2, h⟩ k).trans (Entails.of_eq ?_)
    simp only [if_pos h]
  · rw [dif_neg (by omega), if_neg (by omega)]
    simp only [if_neg (show ¬ s + 2 < 16 by omega)]
    iintro ⟨-, Hi, -, Hx⟩ Hk
    iapply Hk
    isplitl [Hi] <;> iassumption

/-- A step on all rings. -/
theorem step_wp (c : Dev nD) (s : Fin 16) (h1 : 1 ≤ s.val) (h14 : s.val ≤ 14) (k : KProg F) {l : List Pay} (hl : Above (2 * s.val) l) :
    iprop(records m K J ∗ owesL c (stepPays c s.val ++ l) ∗ LoopSt m c s.val ∗ stepToks c s.val)
      ⊢ iprop((owesL c l ∗ LoopSt m c (s.val + 1) -∗ WP c k Q)
          -∗ WP c (step A0 W1 X3 S4b R5 cc0_scratch3 cc0_scratch4 cc0_scratch5 cc0_scratch6 c s k) Q) := by
  have hP : Above 0 (stepPays c s.val ++ l) := ((stepPays_above c (by omega)).append hl).mono (Nat.zero_le _)
  have hn : ∀ e, stgNext (F := F) c e (s.val + 1) = stgBusy c e (s.val + 1) := fun e => if_pos (by omega)
  unfold step LoopSt stepToks StgSt
  simp only [hn]
  iintro ⟨#HI, HO, ⟨Hstg, Hx, Hw, HR⟩, Htk, HT⟩ Hk
  ihave Hstg := (show (both (fun e => iprop(stgIdle c e (s.val + 2) ∗ stgBusy c e s.val ∗ stgBusy c e (s.val + 1))) : sProp 𝕄)
      ⊢ iprop(both (fun e => stgIdle c e (s.val + 2)) ∗ both (fun e => stgBusy c e s.val) ∗ both (fun e => stgBusy c e (s.val + 1))) by
    unfold both
    iintro ⟨⟨A0, A1, A2⟩, ⟨B0, B1, B2⟩⟩
    isplitl [A0 B0]; · isplitl [A0] <;> iassumption
    isplitl [A1 B1]; · isplitl [A1] <;> iassumption
    isplitl [A2] <;> iassumption) $$ Hstg
  icases Hstg with ⟨Hid, Hb, Hb1⟩
  iapply (issue2_wp m K J c _) $$ [Hid Htk Hx]
  · isplitr; · iexact HI
    isplitl [Hid]; · iexact Hid
    isplitl [Htk] <;> iassumption
  iintro ⟨Hb2, Hx⟩
  iapply (await_wp m K J c s _ hP) $$ [HO Hb]
  · isplitr; · iexact HI
    isplitl [HO] <;> iassumption
  iintro ⟨HO, Hf, Hfull⟩
  iapply (ringSteps_wp m K J c h1 h14 k hl) $$ [HO Hfull Hw HR HT]
  · isplitr; · iexact HI
    isplitl [Hfull Hw]
    · unfold shared both
      icases Hfull with ⟨F0, F1⟩
      isplitl [F0]; · iexact F0
      isplitl [F1] <;> iassumption
    isplitl [HO]; · iexact HO
    iapply (four_sep _ _).1
    isplitl [HR] <;> iassumption
  unfold shared
  iintro ⟨⟨F0, F1, Hw⟩, HO, HR⟩
  iapply Hk
  isplitl [HO]; · iexact HO
  isplitr [Hx Hw HR]
  · unfold both stgIdle
    icases Hf with ⟨Hf0, Hf1⟩
    icases Hb1 with ⟨Hb10, Hb11⟩
    icases Hb2 with ⟨Hb20, Hb21⟩
    isplitl [Hf0 F0 Hb10 Hb20]
    · isplitl [Hf0 F0]
      · isplitl [Hf0]; · iexact Hf0
        iapply (stgAny_of_full m c 0 s.val); iexact F0
      isplitl [Hb10]; · iexact Hb10
      iexact Hb20
    · isplitl [Hf1 F1]
      · isplitl [Hf1]; · iexact Hf1
        iapply (stgAny_of_full m c 1 s.val); iexact F1
      isplitl [Hb11]; · iexact Hb11
      iexact Hb21
  isplitl [Hx]; · iexact Hx
  isplitl [Hw]; · iexact Hw
  iexact HR

/-- What the steps from `s` on spend. -/
def toksFrom (c : Dev nD) : ℕ → ℕ → sProp 𝕄
  | 0, _ => iprop(emp)
  | n + 1, s => iprop(stepToks c s ∗ toksFrom c n (s + 1))

/-- All steps from `s` on. -/
theorem steps_wp (c : Dev nD) (k : KProg F) : ∀ (n s : ℕ) (hs : s + n ≤ 16) (_ : 1 ≤ s) (_ : s + n ≤ 15),
    iprop(records m K J ∗ owesL c (paysFrom c n s) ∗ LoopSt m c s ∗ toksFrom c n s)
      ⊢ iprop((owesL c [] ∗ LoopSt m c (s + n) -∗ WP c k Q)
          -∗ WP c (steps A0 W1 X3 S4b R5 cc0_scratch3 cc0_scratch4 cc0_scratch5 cc0_scratch6 c n s hs k) Q)
  | 0, s, hs, h1, h15 => by
    iintro ⟨-, HO, HL, -⟩ Hk
    iapply Hk
    isplitl [HO]; · iexact HO
    iexact HL
  | n + 1, s, hs, h1, h15 => by
    have hs' : s < 16 := by omega
    have hl : Above (2 * s) (paysFrom c n (s + 1)) := (paysFrom_above c n (by omega)).mono (by omega)
    have ih := steps_wp c k n (s + 1) (by omega) (by omega) (by omega)
    unfold steps toksFrom paysFrom
    iintro ⟨#HI, HO, HL, Ht, Hts⟩ Hk
    iapply (step_wp m K J c ⟨s, hs'⟩ h1 (show s ≤ 14 by omega) _ hl) $$ [HO HL Ht]
    · isplitr; · iexact HI
      isplitl [HO]; · iexact HO
      isplitl [HL] <;> iassumption
    iintro ⟨HO, HL⟩
    iapply ih $$ [HO HL Hts]
    · isplitr; · iexact HI
      isplitl [HO]; · iexact HO
      isplitl [HL] <;> iassumption
    rw [show s + (n + 1) = s + 1 + n by omega]
    iexact Hk

end Cert.KernelIdeal.Ring

end
-- ==== Proof.Whole.lean ====
/- The whole body: the barrier, the staging prologue, the steps, the results. -/
module

public import proofs.«01_k».proof.Proof.Body

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

local notation "𝕄" => MT nD τ sig ℕ (Elt F) ℕ UU ℕ

variable (m : (ℓ : Loc nD τ sig) → Buf (Elt F) ℓ)
variable (K : Dev nD × Cx → ℕ) (J : Key → ℕ)
variable {Q : Post F}

/-! ## The barrier -/

/-- A receive slot at the start: in hand, nothing received. -/
def rcv0 (c : Dev nD) (r : Fin 4) (b : Fin 2) : sProp 𝕄 :=
  iprop(atPos ER (cell c (.rcv r b)) 0 ∅ 0 ∗ Release.readerAt EQ (c, r, b) 0 ∗ any c (bufM R5 r b))

/-- A ring's resources at the start. -/
def ringStart (c : Dev nD) (r : Fin 4) : sProp 𝕄 :=
  iprop(sndSt c r 0 ∗ sndSt c r 1 ∗ rcv0 c r 0 ∗ rcv0 c r 1 ∗ crdSt c r 0)

/-- The same after the receive slots are given up. -/
def ringOpen (c : Dev nD) (r : Fin 4) : sProp 𝕄 :=
  iprop(sndSt c r 0 ∗ sndSt c r 1 ∗ rcvSt c r 0 ∗ rcvSt c r 1 ∗ crdSt c r 0)

/-- Both slots of a ring downstream are free. -/
def avail2 (c : Dev nD) (r : Fin 4) : sProp 𝕄 := iprop(avail c r 0 ∗ avail c r 1)

instance avail2_persistent (c : Dev nD) (r : Fin 4) : BI.Persistent (avail2 (F := F) c r) := by unfold avail2; infer_instance

/-- A device's receive slot given up. -/
theorem rcv_open (c : Dev nD) (r : Fin 4) (b : Fin 2) :
    iprop(records m K J ∗ rcv0 c r b) ⊢ |={Set.univ}=> iprop(rcvSt c r b.val ∗ avail (up r c) r b.val) := by
  have hb : par b.val = b := by revert b; decide
  have h0 : b.val / 2 = 0 := by omega
  unfold rcv0 rcvSt avail
  rw [hb, h0, down_up]
  iintro ⟨#HI, Hat, Hre, Ha⟩
  imod (giveUp m K J c r b 0) $$ [Hre Ha] with ⟨Hre, Hrl⟩
  · isplitr; · iexact HI
    isplitl [Hre] <;> iassumption
  imodintro
  isplitl [Hat Hre]
  · isplitl [Hat] <;> iassumption
  isplitl [Hrl]; · iexact Hrl
  iapply (reached_at m K J c (.rcv r b)); iexact HI

/-- A ring's two receive slots given up. -/
theorem ring_open (c : Dev nD) (r : Fin 4) :
    iprop(records m K J ∗ ringStart c r) ⊢ |={Set.univ}=> iprop(ringOpen c r ∗ avail2 (up r c) r) := by
  unfold ringStart ringOpen avail2
  iintro ⟨#HI, Hs0, Hs1, Hr0, Hr1, Hc⟩
  imod (rcv_open m K J c r 0) $$ [Hr0] with ⟨Hr0, Ha0⟩
  · isplitr; · iexact HI
    iexact Hr0
  imod (rcv_open m K J c r 1) $$ [Hr1] with ⟨Hr1, Ha1⟩
  · isplitr; · iexact HI
    iexact Hr1
  imodintro
  isplitr [Ha0 Ha1]
  · isplitl [Hs0]; · iexact Hs0
    isplitl [Hs1]; · iexact Hs1
    isplitl [Hr0]; · iexact Hr0
    isplitl [Hr1]; · iexact Hr1
    iexact Hc
  isplitl [Ha0]; · iexact Ha0
  iexact Ha1

/-- All of a device's receive slots given up. -/
theorem rings_open (c : Dev nD) :
    iprop(records m K J ∗ four (fun r => ringStart c r)) ⊢ |={Set.univ}=> iprop(four (fun r => ringOpen c r) ∗ four (fun r => avail2 (up r c) r)) := by
  unfold four
  iintro ⟨#HI, H0, H2, H1, H3⟩
  imod (ring_open m K J c 0) $$ [H0] with ⟨H0, A0⟩
  · isplitr; · iexact HI
    iexact H0
  imod (ring_open m K J c 2) $$ [H2] with ⟨H2, A2⟩
  · isplitr; · iexact HI
    iexact H2
  imod (ring_open m K J c 1) $$ [H1] with ⟨H1, A1⟩
  · isplitr; · iexact HI
    iexact H1
  imod (ring_open m K J c 3) $$ [H3] with ⟨H3, A3⟩
  · isplitr; · iexact HI
    iexact H3
  imodintro
  isplitr [A0 A1 A2 A3]
  · isplitl [H0]; · iexact H0
    isplitl [H2]; · iexact H2
    isplitl [H1] <;> iassumption
  isplitl [A0]; · iexact A0
  isplitl [A2]; · iexact A2
  isplitl [A1] <;> iassumption

instance four_persistent (P : Fin 4 → sProp 𝕄) [∀ r, BI.Persistent (P r)] : BI.Persistent (four P) := by unfold four; infer_instance

/-- The four rings, in whatever order. -/
theorem four_all (P : Fin 4 → sProp 𝕄) : four P = bigSep Finset.univ P :=
  (bigSep_univ_eq_bigSepL [(0 : Fin 4), 2, 1, 3] (by decide) (by decide) P).symm

/-- What a device tells a neighbour at the barrier: the slots of the rings that reach it from there are free. -/
theorem bar_pay (c : Dev nD) (d : ℕ) (e : Dev nD) (he : ∀ r, leftward r = decide (d = 0) → up r c = e) :
    four (fun r => avail2 (up r c) r) ⊢ pay m e .bar 0 d := by
  rw [four_all]
  refine (bigSep_subset (Finset.filter_subset (fun r => leftward r = decide (d = 0)) _)).trans ?_
  simp only [pay]
  refine bigSep_mono fun r hr => ?_
  rw [he r (Finset.mem_filter.mp hr).2]
  exact (show avail2 e r ⊢ (iprop(avail e r 0 ∗ avail e r 1) : sProp 𝕄) from Entails.of_eq rfl)

/-- What a device learns from both neighbours at the barrier. -/
theorem bar_learn (c : Dev nD) : (bigSep (Finset.range 2) fun d => pay m c .bar 0 d) ⊢ four (fun r => avail2 c r) := by
  rw [four_all]
  have e : (Finset.univ : Finset (Fin 4)) = (Finset.univ.filter fun r => leftward r = true) ∪ (Finset.univ.filter fun r => leftward r = false) := by decide
  have hd : Disjoint (Finset.univ.filter fun r : Fin 4 => leftward r = true) (Finset.univ.filter fun r => leftward r = false) := by decide
  rw [e, bigSep_union hd, show Finset.range 2 = insert 1 {0} by decide, bigSep_insert (by decide), bigSep_singleton]
  exact (Laws.sep_comm).1

/-- A device's barrier duties: at its left neighbour, and at its right one. -/
def barToks (c : Dev nD) : sProp 𝕄 := iprop(dutyTok ER (cell (lft c) .bar) 0 1 ∗ dutyTok ER (cell (rgt c) .bar) 0 0)

/-- One signal to a neighbour's barrier. -/
theorem barSignal_wp (c e : Dev nD) (d : ℕ) (hd : d < 2) (he : ∀ r, leftward r = decide (d = 0) → up r c = e) (k : KProg F) {l : List Pay} :
    iprop(records m K J ∗ owesL c ((cell e .bar, 1, 1) :: l) ∗ dutyTok ER (cell e .bar) 0 d ∗ four (fun r => avail2 (up r c) r))
      ⊢ iprop((owesL c l -∗ WP c k Q) -∗ WP c (.op (.semSignal (e, .tc) barS (1#32).toInt) fun _ => k) Q) := by
  unfold owesL
  iintro ⟨#HI, ⟨%W, HO⟩, Ht, Ha⟩ Hk
  iapply (Rounds.wp_signal 𝒱₀ ER (Rd m) (c : Thread nD τ) none (dst := (e : Thread nD τ)) (κ := K (e, .bar)) (r := 0) (d := d)
      (by rw [show ((e : Thread nD τ), SemLoc.reg barS) = cell e .bar from rfl, Rd_duties m e .bar (k := 0) Nat.one_pos]; exact Finset.mem_range.mpr hd)
      ((Rd_amount m e .bar 0 d).trans (show 1 = _ by decide)) 1 (tallyL l) (add_comm _ _) (W := W)) $$ [HO Ht Ha]
  · isplitr; · iapply (inv_at m K J e .bar); iexact HI
    isplitl [HO]; · iexact HO
    isplitl [Ht]; · iexact Ht
    isplitl [Ha]
    · iapply (show pay m e .bar 0 d ⊢ (Rd m).payload ((e : Thread nD τ), SemLoc.reg barS) 0 d from Entails.of_eq (Rd_payload m e .bar 0 d).symm)
      iapply (bar_pay m c d e he); iexact Ha
    · iapply (reached_at m K J e .bar); iexact HI
  iintro HO
  iapply Hk
  iexists W; iexact HO

/-- The wait for both neighbours. -/
theorem barWait_wp (c : Dev nD) (k : KProg F) {l : List Pay} (hl' : Above 1 l) :
    iprop(records m K J ∗ owesL c l ∗ atPos ER (cell c .bar) 0 ∅ 0 ∗ cred (tallyAt (cell c .bar) 1 2))
      ⊢ iprop((owesL c l ∗ atPos ER (cell c .bar) 1 ∅ 0 ∗ four (fun r => avail2 c r) -∗ WP c k Q)
          -∗ WP c (.op (.semWait barS (2#32).toInt) fun _ => k) Q) := by
  unfold owesL
  iintro ⟨#HI, ⟨%W, HO⟩, Hat, Hc⟩ Hk
  ihave #Hlev := (levs_at m K J) $$ HI
  iapply (Rounds.wp_wait_rest_token 𝒱₀ ER (Rd m) (c : Thread nD τ) none (κ := K (c, .bar)) (sm := semOf .bar) (k' := 2) (wpE_semWait_eq 𝒱₀ (c : Thread nD τ) none Set.univ)
      (Set.mem_univ _) 1 (O := tallyL l) (W := W) (R := 0) (m := 0) (T := ∅)
      (by rw [Nat.zero_add, Rd_expect m c .bar (k := 0) Nat.one_pos]; rfl)) $$ [Hc HO Hat]
  · isplitr; · iapply (inv_at m K J c .bar); iexact HI
    isplitl [Hc]; · iexact Hc
    isplitl [HO]; · iexact HO
    isplitr; · iapply (mayWait (i := 1) (b := 1) le_rfl (by omega) c (semOf .bar) hl'); iexact Hlev
    iexact Hat
  iintro ⟨HO, Hat, -, Hp⟩
  have hp : (bigSep ((Rd m).duties (cell c .bar) 0 \ ∅) fun d => (Rd m).payload (cell c .bar) 0 d) ⊢ four (fun r => avail2 c r) := by
    rw [Finset.sdiff_empty, Rd_duties m c .bar (k := 0) Nat.one_pos]
    exact (bigSep_mono fun d _ => Entails.of_eq (Rd_payload m c .bar 0 d)).trans (bar_learn m c)
  ihave Hp := hp $$ Hp
  iapply Hk
  isplitl [HO]; · iexists _; iexact HO
  isplitl [Hat]; · iexact Hat
  iexact Hp

/-! ## The body -/

/-- What a device starts with, beside what it owes. -/
def Start (c : Dev nD) : sProp 𝕄 :=
  iprop((barToks c ∗ atPos ER (cell c .bar) 0 ∅ 0 ∗ cred (tallyAt (cell c .bar) 1 2))
    ∗ four (fun r => ringStart c r)
    ∗ (both (fun e => stgIdle c e 0) ∗ both (fun e => stgIdle c e 1) ∗ both (fun e => stgIdle c e 2))
    ∗ (both (fun e => stgTok c e 0) ∗ both (fun e => stgTok c e 1) ∗ both (fun e => stgTok c e 2))
    ∗ four (fun r => ringToks c r 0) ∗ toksFrom c 14 1 ∗ four (fun r => stgTok c (row r) (outT r)))

/-- What a device ends with. -/
def End (c : Dev nD) : sProp 𝕄 :=
  iprop(atPos ER (cell c .bar) 1 ∅ 0 ∗ (both (fun e => stgIdle c e 17) ∗ both (fun e => stgAny c e 16) ∗ both (fun e => stgAny c e 18))
    ∗ four (fun r => RingEnd c r) ∗ four (fun r => outRes' m c r))

/-- A ring's state before step 0, out of what is held then. -/
theorem ring_ready (c : Dev nD) : iprop(four (fun r => ringOpen c r) ∗ four (fun r => avail2 (up r c) r) ∗ four (fun r => avail2 c r) ∗ four (fun r => ringToks c r 0))
    ⊢ (four (fun r => iprop(RingSt0 c r ∗ ringToks c r 0)) : sProp 𝕄) := by
  have h : ∀ r, iprop(ringOpen c r ∗ avail2 (up r c) r ∗ avail2 c r ∗ ringToks c r 0) ⊢ (iprop(RingSt0 c r ∗ ringToks c r 0) : sProp 𝕄) := fun r => by
    unfold ringOpen avail2 RingSt0
    iintro ⟨⟨Hs0, Hs1, Hr0, Hr1, Hc⟩, ⟨-, U1⟩, ⟨A0, A1⟩, Ht⟩
    isplitr [Ht]
    · isplitl [Hs0]; · iexact Hs0
      isplitl [Hs1]; · iexact Hs1
      isplitl [Hr0]; · iexact Hr0
      isplitl [Hr1]; · iexact Hr1
      isplitl [U1]; · iexact U1
      isplitl [A0]; · iexact A0
      isplitl [A1] <;> iassumption
    iexact Ht
  have hm : (four (fun r => iprop(ringOpen c r ∗ avail2 (up r c) r ∗ avail2 c r ∗ ringToks c r 0)) : sProp 𝕄)
      ⊢ four (fun r => iprop(RingSt0 c r ∗ ringToks c r 0)) := by
    rw [four_all, four_all]; exact bigSep_mono fun r _ => h r
  refine .trans ?_ hm
  iintro ⟨A, B, C, D⟩
  iapply (four_sep _ _).1
  isplitl [A]; · iexact A
  iapply (four_sep _ _).1
  isplitl [B]; · iexact B
  iapply (four_sep _ _).1
  isplitl [C]; · iexact C
  iexact D

/-- All copies and credits are owed after the barrier. -/
theorem paysFrom_above1 (c : Dev nD) : Above 1 (paysFrom c 15 0) := by
  have h0 : ∀ r, Above 1 (ringPays c r 0) := fun r p hp => by
    obtain rfl : p = (cell (down r c) (.rcv r (par 0)), 2 * 0 + 2, amtB) := by
      rcases List.mem_append.mp hp with h | h
      · exact absurd h (by rw [if_neg (by omega)]; exact List.not_mem_nil)
      · exact List.mem_singleton.mp h
    exact ⟨rfl, by dsimp only; omega, by dsimp only; omega⟩
  exact ((h0 0).append ((h0 2).append ((h0 1).append (h0 3)))).append ((paysFrom_above c 14 (by omega)).mono (by omega))

/-- A device's number is its own. -/
theorem device_wp (c : Dev nD) (k : Dev nD → KProg F) : WP c (k c) Q ⊢ WP c (.op .deviceId k) Q := by
  unfold WP; rw [wp_deviceId]

/-- A body that is done. -/
theorem done_wp (c : Dev nD) : Q ⟨⟩ ⊢ WP c (.ret ⟨⟩ : KProg F) Q := by
  unfold WP; rw [wp_ret]; iintro H; imodintro; iexact H

/-- The body, from what a device starts with to what it ends with. -/
theorem body_wp (c : Dev nD) :
    iprop(records m K J ∗ owesL c (pays c) ∗ Start c ∗ four (fun r => outAny c r) ∗ xPts m c ∗ wPts m c)
      ⊢ iprop((owesL c [] ∗ End m c ∗ xPts m c ∗ wPts m c -∗ Q ⟨⟩)
          -∗ WP c (body A0 W1 O2 X3 S4b R5 cc0_scratch3 cc0_scratch4 cc0_scratch5 cc0_scratch6) Q) := by
  have hpf : Above 0 (paysFrom c 15 0) := paysFrom_above c 15 (by omega)
  have hpf1 : Above 1 (paysFrom c 15 0) := paysFrom_above1 c
  have hps : Above 0 (paysFrom c 14 1) := (paysFrom_above c 14 (by omega)).mono (by omega)
  unfold Start barToks pays body
  iintro ⟨#HI, HO, ⟨⟨⟨Htl, Htr⟩, Hat, Hcr⟩, HR, ⟨Hi0, Hi1, Hi2⟩, ⟨Ht0, Ht1, Ht2⟩, HT0, HT, Hto⟩, Hout, Hx, Hw⟩ Hk
  iapply (device_wp c)
  imod (rings_open m K J c) $$ [HR] with ⟨HR, #HU⟩
  · isplitr; · iexact HI
    iexact HR
  iapply (barSignal_wp m K J c (lft c) 1 (by omega) (fun r h => by rw [up_eq, h]; rfl) _) $$ [HO Htl]
  · isplitr; · iexact HI
    isplitl [HO]; · iexact HO
    isplitl [Htl]; · iexact Htl
    iexact HU
  iintro HO
  iapply (barSignal_wp m K J c (rgt c) 0 (by omega) (fun r h => by rw [up_eq, h]; rfl) _) $$ [HO Htr]
  · isplitr; · iexact HI
    isplitl [HO]; · iexact HO
    isplitl [Htr]; · iexact Htr
    iexact HU
  iintro HO
  iapply (barWait_wp m K J c _ hpf1) $$ [HO Hat Hcr]
  · isplitr; · iexact HI
    isplitl [HO]; · iexact HO
    isplitl [Hat] <;> iassumption
  iintro ⟨HO, Hat, HD⟩
  iapply (issue_wp m K J c 0 _) $$ [Hi0 Ht0 Hx]
  · isplitr; · iexact HI
    isplitl [Hi0]; · iexact Hi0
    isplitl [Ht0]; · iexact Ht0
    iexact Hx
  iintro ⟨Hb0, Hx⟩
  iapply (issue_wp m K J c 1 _) $$ [Hi1 Ht1 Hx]
  · isplitr; · iexact HI
    isplitl [Hi1]; · iexact Hi1
    isplitl [Ht1]; · iexact Ht1
    iexact Hx
  iintro ⟨Hb1, Hx⟩
  iapply (issue_wp m K J c 2 _) $$ [Hi2 Ht2 Hx]
  · isplitr; · iexact HI
    isplitl [Hi2]; · iexact Hi2
    isplitl [Ht2]; · iexact Ht2
    iexact Hx
  iintro ⟨Hb2, Hx⟩
  iapply (await_wp m K J c 0 _ hpf) $$ [HO Hb0]
  · isplitr; · iexact HI
    isplitl [HO] <;> iassumption
  iintro ⟨HO, Hf3, Hf0⟩
  iapply (rings0_wp m K J c _ hps) $$ [HO Hf0 Hw HR HD HT0]
  · isplitr; · iexact HI
    isplitl [Hf0 Hw]
    · unfold shared both
      icases Hf0 with ⟨F0, F1⟩
      isplitl [F0]; · iexact F0
      isplitl [F1]; · iexact F1
      iexact Hw
    isplitl [HO]; · iexact HO
    iapply (ring_ready c)
    isplitl [HR]; · iexact HR
    isplitr; · iexact HU
    isplitl [HD] <;> iassumption
  unfold shared
  iintro ⟨⟨F0, F1, Hw⟩, HO, HR⟩
  iapply (steps_wp m K J c _ 14 1 _ (by omega) (by omega)) $$ [HO Hf3 F0 F1 Hb1 Hb2 Hx Hw HR HT]
  · isplitr; · iexact HI
    isplitl [HO]; · iexact HO
    isplitr [HT]
    · unfold LoopSt StgSt both stgIdle
      icases Hf3 with ⟨Hf30, Hf31⟩
      icases Hb1 with ⟨Hb10, Hb11⟩
      icases Hb2 with ⟨Hb20, Hb21⟩
      isplitr [Hx Hw HR]
      · isplitl [Hf30 F0 Hb10 Hb20]
        · isplitl [Hf30 F0]
          · isplitl [Hf30]; · iexact Hf30
            iapply (stgAny_of_full m c 0 0); iexact F0
          isplitl [Hb10]; · iexact Hb10
          iapply (show stgBusy c 0 2 ⊢ (stgNext c 0 2 : sProp 𝕄) from Entails.of_eq rfl); iexact Hb20
        · isplitl [Hf31 F1]
          · isplitl [Hf31]; · iexact Hf31
            iapply (stgAny_of_full m c 1 0); iexact F1
          isplitl [Hb11]; · iexact Hb11
          iapply (show stgBusy c 1 2 ⊢ (stgNext c 1 2 : sProp 𝕄) from Entails.of_eq rfl); iexact Hb21
      isplitl [Hx]; · iexact Hx
      isplitl [Hw] <;> iassumption
    iexact HT
  unfold LoopSt StgSt both
  iintro ⟨HO, ⟨⟨H17a, H15a, H16a⟩, ⟨H17b, H15b, H16b⟩⟩, Hx, Hw, HR⟩
  ihave H16a := (show stgNext c 0 16 ⊢ (iprop(stgFree c 0 16 ∗ stgAny c 0 16) : sProp 𝕄) from Entails.of_eq rfl) $$ H16a
  ihave H16b := (show stgNext c 1 16 ⊢ (iprop(stgFree c 1 16 ∗ stgAny c 1 16) : sProp 𝕄) from Entails.of_eq rfl) $$ H16b
  icases H16a with ⟨F16a, A16a⟩
  icases H16b with ⟨F16b, A16b⟩
  iapply (await_wp m K J c 15 _ Above.nil) $$ [HO H15a H15b]
  · isplitr; · iexact HI
    isplitl [HO]; · iexact HO
    unfold both
    isplitl [H15a]; · iexact H15a
    iexact H15b
  unfold both
  iintro ⟨HO, ⟨F18a, F18b⟩, Fa, Fb⟩
  iapply (ringsEnd_wp m K J c _) $$ [HO Fa Fb Hw HR F18a F18b F16a F16b Hto Hout]
  · isplitr; · iexact HI
    isplitl [Fa Fb Hw]
    · unfold shared
      isplitl [Fa]; · iexact Fa
      isplitl [Fb]; · iexact Fb
      iexact Hw
    isplitl [HO]; · iexact HO
    iapply (four_sep _ _).1
    isplitl [HR]; · iexact HR
    unfold outRes
    iapply (four_sep _ _).1
    isplitl [F18a F18b F16a F16b]
    · unfold four
      isplitl [F18a]; · iexact F18a
      isplitl [F18b]; · iexact F18b
      isplitl [F16a]; · iexact F16a
      iexact F16b
    iapply (four_sep _ _).1
    isplitl [Hto]; · iexact Hto
    iexact Hout
  unfold shared
  iintro ⟨⟨Fa, Fb, Hw⟩, HO, HR⟩
  ihave HR := (four_sep _ _).2 $$ HR
  icases HR with ⟨HR, Hb⟩
  iapply (outAwaits_wp m K J c _) $$ [HO Hb]
  · isplitr; · iexact HI
    isplitl [HO] <;> iassumption
  iintro ⟨HO, Hb⟩
  iapply (done_wp c)
  iapply Hk
  isplitl [HO]; · iexact HO
  isplitr [Hx Hw]
  · unfold End both
    isplitl [Hat]; · iexact Hat
    isplitr [HR Hb]
    · isplitl [H17a H17b]
      · isplitl [H17a] <;> iassumption
      isplitl [A16a A16b]
      · isplitl [A16a] <;> iassumption
      isplitl [Fa]
      · iapply (stgAny_of_full m c 0 15); iexact Fa
      · iapply (stgAny_of_full m c 1 15); iexact Fb
    isplitl [HR] <;> iassumption
  isplitl [Hx] <;> iassumption

end Cert.KernelIdeal.Ring

end
-- ==== Proof.Pieces.lean ====
/- The buffers cut into the pieces the body works on and joined again, and the cells closed at the end. -/
module

public import proofs.«01_k».proof.Proof.Whole
public import Idealize.ShloMosaic.Lib.Ring.FamCut

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

local notation "𝕄" => MT nD τ sig ℕ (Elt F) ℕ UU ℕ

variable (m : (ℓ : Loc nD τ sig) → Buf (Elt F) ℓ)
variable (K : Dev nD × Cx → ℕ) (J : Key → ℕ)

/-! ## The pieces are disjoint -/

/-- Two staging slots share no element. -/
theorem stage_disj (M : Memref sig .tc .vmem S2x3x512x512 .f32) (b b' : Fin 2 × Fin 3) (h : b ≠ b') :
    Disjoint (stageM M b.1 b.2).view.set (stageM M b'.1 b'.2).view.set := by
  rw [stageM_set, stageM_set]
  show Disjoint (M.view.slice (stageRect b.1 b.2)).set (M.view.slice (stageRect b'.1 b'.2)).set
  rw [View.set_slice, View.set_slice]
  refine (Finset.disjoint_map _).mpr (Finset.disjoint_left.mpr fun i hi hi' => h ?_)
  have h1 := Rect.mem_set_unit.mp hi
  have h2 := Rect.mem_set_unit.mp hi'
  have a0 : b.1.val ≤ (i 0).val ∧ (i 0).val < b.1.val + 1 := h1 0
  have a1 : b.2.val ≤ (i 1).val ∧ (i 1).val < b.2.val + 1 := h1 1
  have c0 : b'.1.val ≤ (i 0).val ∧ (i 0).val < b'.1.val + 1 := h2 0
  have c1 : b'.2.val ≤ (i 1).val ∧ (i 1).val < b'.2.val + 1 := h2 1
  exact Prod.ext (Fin.ext (by omega)) (Fin.ext (by omega))

/-- Two slots of the send or the receive buffer share no element. -/
theorem buf_disj (M : Memref sig .tc .vmem S4x2x512x1024 .f32) (b b' : Fin 4 × Fin 2) (h : b ≠ b') :
    Disjoint (bufM M b.1 b.2).view.set (bufM M b'.1 b'.2).view.set := by
  rw [bufM_set, bufM_set]
  show Disjoint (M.view.slice (bufRect b.1 b.2)).set (M.view.slice (bufRect b'.1 b'.2)).set
  rw [View.set_slice, View.set_slice]
  refine (Finset.disjoint_map _).mpr (Finset.disjoint_left.mpr fun i hi hi' => h ?_)
  have h1 := Rect.mem_set_unit.mp hi
  have h2 := Rect.mem_set_unit.mp hi'
  have a0 : b.1.val ≤ (i 0).val ∧ (i 0).val < b.1.val + 1 := h1 0
  have a1 : b.2.val ≤ (i 1).val ∧ (i 1).val < b.2.val + 1 := h1 1
  have c0 : b'.1.val ≤ (i 0).val ∧ (i 0).val < b'.1.val + 1 := h2 0
  have c1 : b'.2.val ≤ (i 1).val ∧ (i 1).val < b'.2.val + 1 := h2 1
  exact Prod.ext (Fin.ext (by omega)) (Fin.ext (by omega))

/-- Two rings' columns share no element. -/
theorem out_disj (M : Memref sig .tc .hbm S512x4096 .f32) (r r' : Fin 4) (h : r ≠ r') : Disjoint (outM M r).view.set (outM M r').view.set := by
  show Disjoint (M.view.slice (colRect r)).set (M.view.slice (colRect r')).set
  rw [View.set_slice, View.set_slice]
  refine (Finset.disjoint_map _).mpr (Finset.disjoint_left.mpr fun i hi hi' => h ?_)
  have h1 := Rect.mem_set_unit.mp hi
  have h2 := Rect.mem_set_unit.mp hi'
  have a0 : r.val * 1024 ≤ (i 1).val ∧ (i 1).val < r.val * 1024 + 1024 := h1 1
  have c0 : r'.val * 1024 ≤ (i 1).val ∧ (i 1).val < r'.val * 1024 + 1024 := h2 1
  exact Fin.ext (by omega)

/-! ## The buffers in pieces -/

/-- Some contents of a buffer, whole. -/
abbrev whole (c : Dev nD) (b : Ref sig .tc) : sProp 𝕄 := iprop(∃ f : Buf (Elt F) ((c : Thread nD τ).loc b), ((c : Thread nD τ).loc b) ↦{fullShare} f)

/-- What the staging slots leave of their buffer; -/
abbrev restX (c : Dev nD) : sProp 𝕄 :=
  iprop(∃ f : Buf (Elt F) ((c : Thread nD τ).loc cc0_scratch0), ((c : Thread nD τ).loc cc0_scratch0) ↦[Ring.restOf (ℓ := (c : Thread nD τ).loc cc0_scratch0) fun b : Fin 2 × Fin 3 => (stageM X3 b.1 b.2).view.set]{fullShare} f)
/-- the send slots of theirs; -/
abbrev restS (c : Dev nD) : sProp 𝕄 :=
  iprop(∃ f : Buf (Elt F) ((c : Thread nD τ).loc cc0_scratch1), ((c : Thread nD τ).loc cc0_scratch1) ↦[Ring.restOf (ℓ := (c : Thread nD τ).loc cc0_scratch1) fun b : Fin 4 × Fin 2 => (bufM S4b b.1 b.2).view.set]{fullShare} f)
/-- and the receive slots of theirs. -/
abbrev restR (c : Dev nD) : sProp 𝕄 :=
  iprop(∃ f : Buf (Elt F) ((c : Thread nD τ).loc cc0_scratch2), ((c : Thread nD τ).loc cc0_scratch2) ↦[Ring.restOf (ℓ := (c : Thread nD τ).loc cc0_scratch2) fun b : Fin 4 × Fin 2 => (bufM R5 b.1 b.2).view.set]{fullShare} f)

/-- Two slots of each ring. -/
theorem pairs_four (Φ : Fin 4 × Fin 2 → sProp 𝕄) : bigSep Finset.univ Φ = four fun r => iprop(Φ (r, 0) ∗ Φ (r, 1)) := by
  rw [bigSep_univ_prod, four_all]
  exact bigSep_congr fun r _ => bigSep_univ_two _

/-- Three slots of each direction. -/
theorem triples_both (Φ : Fin 2 × Fin 3 → sProp 𝕄) :
    bigSep Finset.univ Φ ⊣⊢ iprop(both (fun e => Φ (e, 0)) ∗ both (fun e => Φ (e, 1)) ∗ both (fun e => Φ (e, 2))) := by
  have e : (bigSep Finset.univ Φ : sProp 𝕄) = iprop(Φ (0, 0) ∗ Φ (1, 0) ∗ Φ (0, 1) ∗ Φ (1, 1) ∗ Φ (0, 2) ∗ Φ (1, 2)) :=
    bigSep_univ_eq_bigSepL [((0 : Fin 2), (0 : Fin 3)), (1, 0), (0, 1), (1, 1), (0, 2), (1, 2)] (by decide) (by decide) Φ
  rw [e]
  unfold both
  refine ⟨?_, ?_⟩
  · iintro ⟨A0, B0, A1, B1, A2, B2⟩
    isplitl [A0 B0]; · isplitl [A0] <;> iassumption
    isplitl [A1 B1]; · isplitl [A1] <;> iassumption
    isplitl [A2] <;> iassumption
  · iintro ⟨⟨A0, B0⟩, ⟨A1, B1⟩, ⟨A2, B2⟩⟩
    isplitl [A0]; · iexact A0
    isplitl [B0]; · iexact B0
    isplitl [A1]; · iexact A1
    isplitl [B1]; · iexact B1
    isplitl [A2] <;> iassumption

/-- The staging buffer, whole, is its slots and the rest. -/
theorem stage_split (c : Dev nD) : whole c cc0_scratch0
    ⊢ (iprop((both (fun e => any c (stageM X3 e 0)) ∗ both (fun e => any c (stageM X3 e 1)) ∗ both (fun e => any c (stageM X3 e 2))) ∗ restX c) : sProp 𝕄) :=
  (Ring.fam_split_ex (ℓ := (c : Thread nD τ).loc cc0_scratch0) (fun b : Fin 2 × Fin 3 => (stageM X3 b.1 b.2).view.set) (stage_disj X3)).trans
    (sep_mono_left (triples_both fun b => any c (stageM X3 b.1 b.2)).1)

theorem stage_join (c : Dev nD) (f₀ : Buf (Elt F) ((c : Thread nD τ).loc cc0_scratch0)) :
    (iprop((both (fun e => any c (stageM X3 e 0)) ∗ both (fun e => any c (stageM X3 e 1)) ∗ both (fun e => any c (stageM X3 e 2))) ∗ restX c) : sProp 𝕄)
      ⊢ whole c cc0_scratch0 :=
  (sep_mono_left (triples_both fun b => any c (stageM X3 b.1 b.2)).2).trans
    (Ring.fam_join (ℓ := (c : Thread nD τ).loc cc0_scratch0) (fun b : Fin 2 × Fin 3 => (stageM X3 b.1 b.2).view.set) (stage_disj X3) f₀)

/-- The send buffer, whole, is its slots and the rest. -/
theorem send_split (c : Dev nD) : whole c cc0_scratch1
    ⊢ (iprop(four (fun r => iprop(any c (bufM S4b r 0) ∗ any c (bufM S4b r 1))) ∗ restS c) : sProp 𝕄) :=
  (Ring.fam_split_ex (ℓ := (c : Thread nD τ).loc cc0_scratch1) (fun b : Fin 4 × Fin 2 => (bufM S4b b.1 b.2).view.set) (buf_disj S4b)).trans
    (sep_mono_left (Entails.of_eq (pairs_four fun b => any c (bufM S4b b.1 b.2))))

theorem send_join (c : Dev nD) (f₀ : Buf (Elt F) ((c : Thread nD τ).loc cc0_scratch1)) :
    (iprop(four (fun r => iprop(any c (bufM S4b r 0) ∗ any c (bufM S4b r 1))) ∗ restS c) : sProp 𝕄) ⊢ whole c cc0_scratch1 :=
  (sep_mono_left (Entails.of_eq (pairs_four fun b => any c (bufM S4b b.1 b.2)).symm)).trans
    (Ring.fam_join (ℓ := (c : Thread nD τ).loc cc0_scratch1) (fun b : Fin 4 × Fin 2 => (bufM S4b b.1 b.2).view.set) (buf_disj S4b) f₀)

/-- The receive buffer, whole, is its slots and the rest. -/
theorem recv_split (c : Dev nD) : whole c cc0_scratch2
    ⊢ (iprop(four (fun r => iprop(any c (bufM R5 r 0) ∗ any c (bufM R5 r 1))) ∗ restR c) : sProp 𝕄) :=
  (Ring.fam_split_ex (ℓ := (c : Thread nD τ).loc cc0_scratch2) (fun b : Fin 4 × Fin 2 => (bufM R5 b.1 b.2).view.set) (buf_disj R5)).trans
    (sep_mono_left (Entails.of_eq (pairs_four fun b => any c (bufM R5 b.1 b.2))))

theorem recv_join (c : Dev nD) (f₀ : Buf (Elt F) ((c : Thread nD τ).loc cc0_scratch2)) :
    (iprop(four (fun r => iprop(any c (bufM R5 r 0) ∗ any c (bufM R5 r 1))) ∗ restR c) : sProp 𝕄) ⊢ whole c cc0_scratch2 :=
  (sep_mono_left (Entails.of_eq (pairs_four fun b => any c (bufM R5 b.1 b.2)).symm)).trans
    (Ring.fam_join (ℓ := (c : Thread nD τ).loc cc0_scratch2) (fun b : Fin 4 × Fin 2 => (bufM R5 b.1 b.2).view.set) (buf_disj R5) f₀)

/-- The result's columns out of the whole result. -/
theorem out_split (c : Dev nD) : whole c main_v1 ⊢ (four (fun r => outAny c r) : sProp 𝕄) :=
  (Ring.fam_split_ex (ℓ := (c : Thread nD τ).loc main_v1) (fun r : Fin 4 => (outM O2 r).view.set) (out_disj O2)).trans (by
    iintro ⟨H, -⟩
    iapply (show (bigSep Finset.univ fun r : Fin 4 => (outAny c r : sProp 𝕄)) ⊢ four (fun r => outAny c r) from Entails.of_eq (four_all _).symm)
    iexact H)

/-! ## The cells -/

/-- The cells beside the barrier's. -/
abbrev Own : Type := Fin 4 ⊕ (Fin 2 × Fin 3) ⊕ (Fin 4 × Fin 2) ⊕ (Fin 4 × Fin 2)
def ofOwn (o : Own) : Cx := Cx.equiv.symm (.inr o)
/-- Their semaphores. -/
abbrev osem (o : Own) : SemLoc sig := semOf (ofOwn o)

/-- A resource of every cell: the barrier's, and the others'. -/
theorem cx_split (Φ : Cx → sProp 𝕄) : bigSep Finset.univ Φ = iprop(Φ .bar ∗ bigSep Finset.univ fun o => Φ (ofOwn o)) := by
  rw [bigSep_univ_equiv Cx.equiv.symm Φ]
  refine (bigSep_univ_sum _).trans ?_
  rw [show (Finset.univ : Finset Unit) = {()} from rfl, bigSep_singleton]
  rfl

/-- A resource of every cell beside the barrier's, kind by kind. -/
theorem own_split (Φ : Cx → sProp 𝕄) : (bigSep Finset.univ fun o => Φ (ofOwn o))
    ⊣⊢ iprop(four (fun r => Φ (.crd r)) ∗ (both (fun e => Φ (.stg e 0)) ∗ both (fun e => Φ (.stg e 1)) ∗ both (fun e => Φ (.stg e 2)))
      ∗ four (fun r => iprop(Φ (.snd r 0) ∗ Φ (.snd r 1))) ∗ four (fun r => iprop(Φ (.rcv r 0) ∗ Φ (.rcv r 1)))) := by
  have e : (bigSep Finset.univ fun o => Φ (ofOwn o))
      = iprop((bigSep Finset.univ fun r => Φ (.crd r)) ∗ (bigSep Finset.univ fun b : Fin 2 × Fin 3 => Φ (.stg b.1 b.2))
        ∗ (bigSep Finset.univ fun b : Fin 4 × Fin 2 => Φ (.snd b.1 b.2)) ∗ bigSep Finset.univ fun b : Fin 4 × Fin 2 => Φ (.rcv b.1 b.2)) := by
    refine (bigSep_univ_sum _).trans (congrArg₂ BI.sep rfl ((bigSep_univ_sum _).trans (congrArg₂ BI.sep rfl ((bigSep_univ_sum _).trans ?_))))
    rfl
  rw [e, pairs_four, pairs_four, ← four_all]
  refine ⟨?_, ?_⟩
  · iintro ⟨A, B, C, D⟩
    isplitl [A]; · iexact A
    isplitl [B]; · iapply (triples_both fun b => Φ (.stg b.1 b.2)).1; iexact B
    isplitl [C] <;> iassumption
  · iintro ⟨A, B, C, D⟩
    isplitl [A]; · iexact A
    isplitl [B]; · iapply (triples_both fun b => Φ (.stg b.1 b.2)).2; iexact B
    isplitl [C] <;> iassumption

/-- A cell whose rounds are over, closed. -/
theorem cell_end (c : Dev nD) (x : Cx) {R : ℕ} (hR : rounds x ≤ R) :
    iprop(records m K J ∗ atPos ER (cell c x) R ∅ 0) ⊢ |={Set.univ}=> (semVal (cell c x) 0 : sProp 𝕄) := by
  iintro ⟨#HI, Hat⟩
  iapply (Rounds.cell_close ER (Rd m) (Set.mem_univ (K (c, x))) (fun h => h) (R := R) (fun k hk => Rd_duties_later m c x k (hR.trans hk)))
  isplitr; · iapply (inv_at m K J c x); iexact HI
  iexact Hat

/-- A credit cell whose credits are all taken, closed. -/
theorem crd_end (c : Dev nD) (r : Fin 4) : iprop(records m K J ∗ crdSt c r 13) ⊢ |={Set.univ}=> (semVal (cell c (.crd r)) 0 : sProp 𝕄) := by
  unfold crdSt
  iintro ⟨#HI, ⟨%T, %hT, Hat, -⟩⟩
  imod (Rounds.fupd_skip ER (Rd m) (g := cell c (.crd r)) (κ := K (c, .crd r)) (R := 0) (m := 13) (T := T)
    (by rw [Rd_duties m c (.crd r) (k := 0) Nat.one_pos]
        rw [Finset.eq_of_subset_of_card_le hT.1 (by rw [Finset.card_range]; exact hT.2)]
        exact Finset.Subset.refl _)
    (Rd_expect m c (.crd r) (k := 0) Nat.one_pos).symm (Set.mem_univ _)) $$ [Hat] with ⟨Hat, -⟩
  · isplitr; · iapply (inv_at m K J c (.crd r)); iexact HI
    iexact Hat
  iapply (cell_end m K J c (.crd r) (R := 1) le_rfl)
  isplitr; · iexact HI
  iexact Hat

/-- A ring's cells and slots at the end. -/
def ringLeft (c : Dev nD) (r : Fin 4) : sProp 𝕄 :=
  iprop(semVal (cell c (.crd r)) 0 ∗ (semVal (cell c (.snd r 0)) 0 ∗ semVal (cell c (.snd r 1)) 0) ∗ (semVal (cell c (.rcv r 0)) 0 ∗ semVal (cell c (.rcv r 1)) 0)
    ∗ (any c (bufM S4b r 0) ∗ any c (bufM S4b r 1)) ∗ (any c (bufM R5 r 0) ∗ any c (bufM R5 r 1))
    ∗ outFull m c r ∗ semVal (cell c (.stg (row r) (tri (r.val % 2)))) 0)

theorem outT3 (r : Fin 4) : rounds (.stg (row r) (tri (outT r + 3))) ≤ (outT r + 3) / 3 := by revert r; decide
theorem outT3_tri (r : Fin 4) : tri (outT r + 3) = tri (r.val % 2) := by revert r; decide

theorem ring_end (c : Dev nD) (r : Fin 4) : iprop(records m K J ∗ RingEnd c r ∗ outRes' m c r) ⊢ |={Set.univ}=> ringLeft m c r := by
  unfold RingEnd outRes' ringLeft sndPos rcvPos stgFree sndAny rcvAny
  iintro ⟨#HI, ⟨⟨Hs1, -⟩, ⟨Hs0, -⟩, Ha0, ⟨Hr1, -⟩, Hb1, ⟨Hr0, -⟩, Hb0, Hc⟩, ⟨Hg, -⟩, Ho, Ha1⟩
  imod (crd_end m K J c r) $$ [Hc] with Hc
  · isplitr; · iexact HI
    iexact Hc
  imod (cell_end m K J c (.snd r (par 15)) (R := 15 / 2) (by show 8 - 1 ≤ 7; omega)) $$ [Hs1] with Hs1
  · isplitr; · iexact HI
    iexact Hs1
  imod (cell_end m K J c (.snd r (par 16)) (R := 16 / 2) (by show 8 - 0 ≤ 8; omega)) $$ [Hs0] with Hs0
  · isplitr; · iexact HI
    iexact Hs0
  imod (cell_end m K J c (.rcv r (par 13)) (R := 13 / 2 + 1) (by show 8 - 1 ≤ 7; omega)) $$ [Hr1] with Hr1
  · isplitr; · iexact HI
    iexact Hr1
  imod (cell_end m K J c (.rcv r (par 14)) (R := 14 / 2 + 1) (by show 8 - 0 ≤ 8; omega)) $$ [Hr0] with Hr0
  · isplitr; · iexact HI
    iexact Hr0
  imod (cell_end m K J c (.stg (row r) (tri (outT r + 3))) (outT3 r)) $$ [Hg] with Hg
  · isplitr; · iexact HI
    iexact Hg
  imodintro
  isplitl [Hc]; · iexact Hc
  isplitl [Hs0 Hs1]
  · isplitl [Hs0]; · iexact Hs0
    iexact Hs1
  isplitl [Hr0 Hr1]
  · isplitl [Hr0]; · iexact Hr0
    iexact Hr1
  isplitl [Ha0 Ha1]
  · isplitl [Ha0]; · iexact Ha0
    iexact Ha1
  isplitl [Hb0 Hb1]
  · isplitl [Hb0]; · iexact Hb0
    iexact Hb1
  isplitl [Ho]; · iexact Ho
  iapply (show semVal (cell c (.stg (row r) (tri (outT r + 3)))) 0 ⊢ (semVal (cell c (.stg (row r) (tri (r.val % 2)))) 0 : sProp 𝕄) from
    Entails.of_eq (by rw [outT3_tri]))
  iexact Hg

/-- What the body leaves: every cell of the device closed, its buffers whole, and its result columns. -/
def Left (c : Dev nD) : sProp 𝕄 :=
  iprop(semVal (cell c .bar) 0 ∗ (bigSep Finset.univ fun o => semVal (cell c (ofOwn o)) 0)
    ∗ (whole c cc0_scratch0 ∗ whole c cc0_scratch1 ∗ whole c cc0_scratch2) ∗ four (fun r => outFull m c r))

/-- All rings' cells and slots at the end. -/
theorem rings_end (c : Dev nD) : iprop(records m K J ∗ four (fun r => RingEnd c r) ∗ four (fun r => outRes' m c r))
    ⊢ |={Set.univ}=> four (fun r => ringLeft m c r) := by
  unfold four
  iintro ⟨#HI, ⟨H0, H2, H1, H3⟩, O0, O2, O1, O3⟩
  imod (ring_end m K J c 0) $$ [H0 O0] with H0
  · isplitr; · iexact HI
    isplitl [H0] <;> iassumption
  imod (ring_end m K J c 2) $$ [H2 O2] with H2
  · isplitr; · iexact HI
    isplitl [H2] <;> iassumption
  imod (ring_end m K J c 1) $$ [H1 O1] with H1
  · isplitr; · iexact HI
    isplitl [H1] <;> iassumption
  imod (ring_end m K J c 3) $$ [H3 O3] with H3
  · isplitr; · iexact HI
    isplitl [H3] <;> iassumption
  imodintro
  isplitl [H0]; · iexact H0
  isplitl [H2]; · iexact H2
  isplitl [H1] <;> iassumption

/-- The staging cells of the last slot, closed. -/
theorem last_end (c : Dev nD) : iprop(records m K J ∗ both (fun e => stgIdle c e 17))
    ⊢ |={Set.univ}=> iprop(both (fun e => semVal (cell c (.stg e 2)) 0) ∗ both (fun e => any c (stageM X3 e 2))) := by
  unfold both stgIdle stgFree stgAny
  iintro ⟨#HI, ⟨⟨H0, -⟩, A0⟩, ⟨H1, -⟩, A1⟩
  imod (cell_end m K J c (.stg 0 (tri 17)) (R := 17 / 3) (by show 7 - 2 ≤ 5; omega)) $$ [H0] with H0
  · isplitr; · iexact HI
    iexact H0
  imod (cell_end m K J c (.stg 1 (tri 17)) (R := 17 / 3) (by show 7 - 2 ≤ 5; omega)) $$ [H1] with H1
  · isplitr; · iexact HI
    iexact H1
  imodintro
  isplitl [H0 H1]
  · isplitl [H0]; · iexact H0
    iexact H1
  isplitl [A0]; · iexact A0
  iexact A1

/-- Everything closed and joined. -/
theorem end_left (c : Dev nD) : iprop(records m K J ∗ End m c ∗ restX c ∗ restS c ∗ restR c) ⊢ |={Set.univ}=> Left m c := by
  unfold End Left
  iintro ⟨#HI, ⟨Hb, ⟨Hx2, Hx1, Hx0⟩, Hr, Ho⟩, RX, RS, RR⟩
  imod (cell_end m K J c .bar (R := 1) le_rfl) $$ [Hb] with Hb
  · isplitr; · iexact HI
    iexact Hb
  imod (last_end m K J c) $$ [Hx2] with ⟨Hg, Hx2⟩
  · isplitr; · iexact HI
    iexact Hx2
  imod (rings_end m K J c) $$ [Hr Ho] with H
  · isplitr; · iexact HI
    isplitl [Hr] <;> iassumption
  imodintro
  unfold four ringLeft
  icases H with ⟨⟨Hc0, Hs0, Hv0, Ha0, Hb0, Ho0, Hg0⟩, ⟨Hc2, Hs2, Hv2, Ha2, Hb2, Ho2, Hg2⟩, ⟨Hc1, Hs1, Hv1, Ha1, Hb1, Ho1, Hg1⟩, ⟨Hc3, Hs3, Hv3, Ha3, Hb3, Ho3, Hg3⟩⟩
  isplitl [Hb]; · iexact Hb
  isplitl [Hg Hc0 Hc1 Hc2 Hc3 Hs0 Hs1 Hs2 Hs3 Hv0 Hv1 Hv2 Hv3 Hg0 Hg1 Hg2 Hg3]
  · iapply (own_split fun x => (semVal (cell c x) 0 : sProp 𝕄)).2
    unfold four
    isplitl [Hc0 Hc1 Hc2 Hc3]
    · isplitl [Hc0]; · iexact Hc0
      isplitl [Hc2]; · iexact Hc2
      isplitl [Hc1]; · iexact Hc1
      iexact Hc3
    isplitl [Hg Hg0 Hg1 Hg2 Hg3]
    · isplitl [Hg0 Hg2]
      · unfold both; isplitl [Hg0]; · iexact Hg0
        iexact Hg2
      isplitl [Hg1 Hg3]
      · unfold both; isplitl [Hg1]; · iexact Hg1
        iexact Hg3
      iexact Hg
    isplitl [Hs0 Hs1 Hs2 Hs3]
    · isplitl [Hs0]; · iexact Hs0
      isplitl [Hs2]; · iexact Hs2
      isplitl [Hs1]; · iexact Hs1
      iexact Hs3
    isplitl [Hv0]; · iexact Hv0
    isplitl [Hv2]; · iexact Hv2
    isplitl [Hv1]; · iexact Hv1
    iexact Hv3
  isplitr [Ho0 Ho1 Ho2 Ho3]
  · isplitl [Hx0 Hx1 Hx2 RX]
    · iapply (stage_join c (m _))
      isplitr [RX]
      · isplitl [Hx0]; · iexact Hx0
        isplitl [Hx1]; · iexact Hx1
        iexact Hx2
      iexact RX
    isplitl [Ha0 Ha1 Ha2 Ha3 RS]
    · iapply (send_join c (m _))
      isplitr [RS]
      · unfold four
        isplitl [Ha0]; · iexact Ha0
        isplitl [Ha2]; · iexact Ha2
        isplitl [Ha1]; · iexact Ha1
        iexact Ha3
      iexact RS
    iapply (recv_join c (m _))
    isplitr [RR]
    · unfold four
      isplitl [Hb0]; · iexact Hb0
      isplitl [Hb2]; · iexact Hb2
      isplitl [Hb1]; · iexact Hb1
      iexact Hb3
    iexact RR
  isplitl [Ho0]; · iexact Ho0
  isplitl [Ho2]; · iexact Ho2
  isplitl [Ho1]; · iexact Ho1
  iexact Ho3

end Cert.KernelIdeal.Ring

end
-- ==== Proof.Deal.lean ====
/- The launch: every duty, write and position dealt to the device that uses it, and the credit for what is owed to it. -/
module

public import proofs.«01_k».proof.Proof.Pieces

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok)
open Idealize.ShloMosaic.TalkSites (tallyL)

variable {F : FTy → Type} [FloatOps F]

local notation "𝕄" => MT nD τ sig ℕ (Elt F) ℕ UU ℕ

variable (m : (ℓ : Loc nD τ sig) → Buf (Elt F) ℓ)
variable (K : Dev nD × Cx → ℕ) (J : Key → ℕ)

/-! ## Counting -/

theorem range_fin (n : ℕ) (Φ : ℕ → sProp 𝕄) : bigSep (Finset.range n) Φ = bigSep Finset.univ fun i : Fin n => Φ i.val := by
  rw [show Finset.range n = Finset.univ.map Fin.valEmbedding from Finset.ext fun k => by
    simp only [Finset.mem_range, Finset.mem_map, Finset.mem_univ, true_and, Fin.valEmbedding_apply]
    exact ⟨fun h => ⟨⟨k, h⟩, rfl⟩, fun ⟨i, hi⟩ => hi ▸ i.isLt⟩, bigSep_map]
  rfl

/-- A resource of every step and ring, step by step. -/
theorem steps_four (n : ℕ) (Φ : ℕ → Fin 4 → sProp 𝕄) :
    (bigSep Finset.univ fun x : Fin n × Fin 4 => Φ x.1.val x.2) = bigSep (Finset.range n) fun s => four (Φ s) := by
  rw [bigSep_univ_prod, range_fin]
  exact bigSep_congr fun s _ => (four_all _).symm
/-- And of every step and direction. -/
theorem steps_both (n : ℕ) (Φ : ℕ → Fin 2 → sProp 𝕄) :
    (bigSep Finset.univ fun x : Fin n × Fin 2 => Φ x.1.val x.2) = bigSep (Finset.range n) fun s => both (Φ s) := by
  rw [bigSep_univ_prod, range_fin]
  exact bigSep_congr fun s _ => bigSep_univ_two _

/-- Records in hand, a resource of each ring is turned into another. -/
theorem four_with {R : sProp 𝕄} [BI.Persistent R] {P P' : Fin 4 → sProp 𝕄} (h : ∀ r, iprop(R ∗ P r) ⊢ P' r) : iprop(R ∗ four P) ⊢ four P' := by
  unfold four
  iintro ⟨#HI, H0, H2, H1, H3⟩
  isplitl [H0]
  · iapply (h 0); isplitr; · iexact HI
    iexact H0
  isplitl [H2]
  · iapply (h 2); isplitr; · iexact HI
    iexact H2
  isplitl [H1]
  · iapply (h 1); isplitr; · iexact HI
    iexact H1
  iapply (h 3); isplitr; · iexact HI
  iexact H3
theorem four_mono {P P' : Fin 4 → sProp 𝕄} (h : ∀ r, P r ⊢ P' r) : four P ⊢ four P' := by
  rw [four_all, four_all]; exact bigSep_mono fun r _ => h r

theorem Ico_cons {s n : ℕ} (h : s < n) : Finset.Ico s n = insert s (Finset.Ico (s + 1) n) := Finset.ext fun k => by
  simp only [Finset.mem_Ico, Finset.mem_insert]; omega
theorem Ico_peel {s n : ℕ} (h : s < n) (Φ : ℕ → sProp 𝕄) : bigSep (Finset.Ico s n) Φ = iprop(Φ s ∗ bigSep (Finset.Ico (s + 1) n) Φ) := by
  rw [Ico_cons h, bigSep_insert (by simp)]; rfl

/-! ## The tokens -/

/-- The names of the duties of a device's cells. -/
abbrev Tk : Type := Fin 2 ⊕ (Fin 19 × Fin 2) ⊕ (Fin 13 × Fin 4) ⊕ (Fin 15 × Fin 4) ⊕ (Fin 15 × Fin 4)

/-- The duty named. -/
def tokOf (ct : Dev nD × Tk) : GSem nD τ sig × ℕ × ℕ := match ct.2 with
  | .inl d => (cell ct.1 .bar, 0, d.val)
  | .inr (.inl x) => (cell ct.1 (.stg x.2 (tri x.1.val)), x.1.val / 3, 0)
  | .inr (.inr (.inl x)) => (cell ct.1 (.crd x.2), 0, x.1.val)
  | .inr (.inr (.inr (.inl x))) => (cell ct.1 (.snd x.2 (par x.1.val)), x.1.val / 2, 0)
  | .inr (.inr (.inr (.inr x))) => (cell ct.1 (.rcv x.2 (par x.1.val)), x.1.val / 2, 0)

theorem tri_div {s t : ℕ} (h : tri s = tri t) (h' : s / 3 = t / 3) : s = t := by
  have := congrArg Fin.val h; simp only [tri] at this; omega
theorem par_div {s t : ℕ} (h : par s = par t) (h' : s / 2 = t / 2) : s = t := by
  have := congrArg Fin.val h; simp only [par] at this; omega

theorem tokOf_injective : Function.Injective tokOf := by
  rintro ⟨c, x⟩ ⟨c', x'⟩ h
  rcases x with d | ⟨s, e⟩ | ⟨s, r⟩ | ⟨s, r⟩ | ⟨s, r⟩ <;> rcases x' with d' | ⟨s', e'⟩ | ⟨s', r'⟩ | ⟨s', r'⟩ | ⟨s', r'⟩ <;>
    obtain ⟨rfl, h1⟩ := cell_inj (congrArg Prod.fst h) <;> try (exfalso; cases h1; done)
  all_goals
    have h2 := congrArg (fun y : GSem nD τ sig × ℕ × ℕ => y.2.1) h
    have h3 := congrArg (fun y : GSem nD τ sig × ℕ × ℕ => y.2.2) h
  · exact congrArg (fun d => ((c, Sum.inl d) : Dev nD × Tk)) (Fin.ext h3)
  · exact congrArg (fun y => ((c, Sum.inr (Sum.inl y)) : Dev nD × Tk)) (Prod.ext (Fin.ext (tri_div (Cx.stg.inj h1).2 h2)) (Cx.stg.inj h1).1)
  · exact congrArg (fun y => ((c, Sum.inr (Sum.inr (Sum.inl y))) : Dev nD × Tk)) (Prod.ext (Fin.ext h3) (Cx.crd.inj h1))
  · exact congrArg (fun y => ((c, Sum.inr (Sum.inr (Sum.inr (Sum.inl y)))) : Dev nD × Tk)) (Prod.ext (Fin.ext (par_div (Cx.snd.inj h1).2 h2)) (Cx.snd.inj h1).1)
  · exact congrArg (fun y => ((c, Sum.inr (Sum.inr (Sum.inr (Sum.inr y)))) : Dev nD × Tk)) (Prod.ext (Fin.ext (par_div (Cx.rcv.inj h1).2 h2)) (Cx.rcv.inj h1).1)

/-- The duties of a device's own cells. -/
def ownToks (d : Dev nD) : sProp 𝕄 :=
  iprop((dutyTok ER (cell d .bar) 0 0 ∗ dutyTok ER (cell d .bar) 0 1)
    ∗ (bigSep Finset.univ fun x : Fin 19 × Fin 2 => stgTok d x.2 x.1.val)
    ∗ (bigSep Finset.univ fun x : Fin 13 × Fin 4 => dutyTok ER (cell d (.crd x.2)) 0 x.1.val)
    ∗ (bigSep Finset.univ fun x : Fin 15 × Fin 4 => dutyTok ER (cell d (.snd x.2 (par x.1.val))) (x.1.val / 2) 0)
    ∗ bigSep Finset.univ fun x : Fin 15 × Fin 4 => dutyTok ER (cell d (.rcv x.2 (par x.1.val))) (x.1.val / 2) 0)

/-- The writes to a device's receive slots. -/
def ownWrites (d : Dev nD) : sProp 𝕄 :=
  bigSep Finset.univ fun x : Fin 15 × Fin 4 => Release.writeTok EQ (d, x.2, par x.1.val) (x.1.val / 2 + 1)

/-- What a device pays and writes. -/
def payToks (c : Dev nD) : sProp 𝕄 :=
  iprop(barToks c ∗ (bigSep Finset.univ fun x : Fin 19 × Fin 2 => stgTok c x.2 x.1.val)
    ∗ (bigSep Finset.univ fun x : Fin 13 × Fin 4 => crdTok c x.2 (x.1.val + 1)) ∗ bigSep Finset.univ fun x : Fin 15 × Fin 4 => sendTok c x.2 x.1.val)

/-- The devices along each ring, at every step. -/
def upE (n : ℕ) : Dev nD × (Fin n × Fin 4) ≃ Dev nD × (Fin n × Fin 4) where
  toFun y := (up y.2.2 y.1, y.2)
  invFun y := (down y.2.2 y.1, y.2)
  left_inv y := Prod.ext (down_up y.2.2 y.1) rfl
  right_inv y := Prod.ext (up_down y.2.2 y.1) rfl

theorem deal_up {n : ℕ} (Φ : Dev nD → Fin n × Fin 4 → sProp 𝕄) : (bigSep Finset.univ fun d => bigSep Finset.univ (Φ d))
    = bigSep Finset.univ fun c => bigSep Finset.univ fun x => Φ (up x.2 c) x := by
  rw [← bigSep_univ_prod (fun y : Dev nD × (Fin n × Fin 4) => Φ y.1 y.2), bigSep_univ_equiv (upE n), bigSep_univ_prod]; rfl
theorem deal_down {n : ℕ} (Φ : Dev nD → Fin n × Fin 4 → sProp 𝕄) : (bigSep Finset.univ fun d => bigSep Finset.univ (Φ d))
    = bigSep Finset.univ fun c => bigSep Finset.univ fun x => Φ (down x.2 c) x := by
  rw [← bigSep_univ_prod (fun y : Dev nD × (Fin n × Fin 4) => Φ y.1 y.2), bigSep_univ_equiv (upE n).symm, bigSep_univ_prod]; rfl

/-- The tokens dealt around the rings. -/
theorem toks_around : iprop((bigSep Finset.univ fun d : Dev nD => (ownToks d : sProp 𝕄)) ∗ bigSep Finset.univ fun d : Dev nD => ownWrites d)
    ⊢ bigSep Finset.univ fun c : Dev nD => payToks c := by
  unfold ownToks ownWrites payToks barToks
  simp only [bigSep_sep', sendTok]
  rw [deal_up fun d (x : Fin 13 × Fin 4) => (dutyTok ER (cell d (.crd x.2)) 0 x.1.val : sProp 𝕄),
    deal_down fun d (x : Fin 15 × Fin 4) => (dutyTok ER (cell d (.rcv x.2 (par x.1.val))) (x.1.val / 2) 0 : sProp 𝕄),
    deal_down fun d (x : Fin 15 × Fin 4) => (Release.writeTok EQ (d, x.2, par x.1.val) (x.1.val / 2 + 1) : sProp 𝕄),
    bigSep_univ_equiv rightEquiv (fun d : Dev nD => (dutyTok ER (cell d .bar) 0 0 : sProp 𝕄)),
    bigSep_univ_equiv rightEquiv.symm (fun d : Dev nD => (dutyTok ER (cell d .bar) 0 1 : sProp 𝕄))]
  iintro ⟨⟨⟨H0, H1⟩, Hg, Hc, Hs, Hr⟩, Hw⟩
  isplitl [H0 H1]
  · isplitl [H1]; · iexact H1
    iexact H0
  isplitl [Hg]; · iexact Hg
  isplitl [Hc]; · iexact Hc
  isplitl [Hs]; · iexact Hs
  isplitl [Hr]; · iexact Hr
  iexact Hw

/-! ## The credit -/

/-- The credit for what the other devices owe a device. -/
def creds (c : Dev nD) : sProp 𝕄 :=
  iprop(cred (tallyAt (cell c .bar) 1 2) ∗ bigSep (Finset.Ico 0 15) fun s => four fun r => iprop(rcvCred c r s ∗ crdNext c r s))

theorem launch_ring (r : Fin 4) (s : ℕ) (c : Dev nD) :
    (Pipeline.launchCred (fun d => tallyL (ringPays d r s)) c : sProp 𝕄) ⊢ iprop(rcvCred c r s ∗ crdNext c r s) := by
  unfold ringPays crdNext
  have h1 : (Pipeline.launchCred (fun d => tallyL [(cell (down r d) (.rcv r (par s)), 2 * s + 2, amtB)]) c : sProp 𝕄) ⊢ rcvCred c r s := by
    refine (Entails.of_eq (congrArg (fun O => Pipeline.launchCred O c) (funext fun d => ?_))).trans
      (Pipeline.launchCred_tallyAt (semOf (.rcv r (par s))) (down r) (up r) (down_up r) (up_down r) (2 * s + 2) amtB c)
    exact add_zero _
  split
  · simp only [TalkSites.tallyL_append]
    rw [Pipeline.launchCred_add]
    have h2 : (Pipeline.launchCred (fun d => tallyL [(cell (up r d) (.crd r), 2 * s + 1, 1)]) c : sProp 𝕄) ⊢ crdCred c r s := by
      refine (Entails.of_eq (congrArg (fun O => Pipeline.launchCred O c) (funext fun d => ?_))).trans
        (Pipeline.launchCred_tallyAt (semOf (.crd r)) (up r) (down r) (up_down r) (down_up r) (2 * s + 1) 1 c)
      exact add_zero _
    iintro ⟨Hc, Hr⟩
    isplitl [Hr]
    · iapply h1; iexact Hr
    · iapply h2; iexact Hc
  · iintro H
    isplitl [H]
    · iapply h1; iexact H
    iempintro

theorem launch_step (s : ℕ) (c : Dev nD) :
    (Pipeline.launchCred (fun d => tallyL (stepPays d s)) c : sProp 𝕄) ⊢ four fun r => iprop(rcvCred c r s ∗ crdNext c r s) := by
  unfold stepPays four
  simp only [TalkSites.tallyL_append]
  rw [Pipeline.launchCred_add, Pipeline.launchCred_add, Pipeline.launchCred_add]
  exact BI.sep_mono (launch_ring 0 s c) (BI.sep_mono (launch_ring 2 s c) (BI.sep_mono (launch_ring 1 s c) (launch_ring 3 s c)))

theorem launch_steps (c : Dev nD) : ∀ n s : ℕ, (Pipeline.launchCred (fun d => tallyL (paysFrom d n s)) c : sProp 𝕄)
    ⊢ bigSep (Finset.Ico s (s + n)) fun s => four fun r => iprop(rcvCred c r s ∗ crdNext c r s)
  | 0, s => by
    rw [Nat.add_zero, Finset.Ico_self, bigSep_empty]
    iintro -; iempintro
  | n + 1, s => by
    rw [Ico_peel (show s < s + (n + 1) by omega)]
    unfold paysFrom
    simp only [TalkSites.tallyL_append]
    rw [Pipeline.launchCred_add]
    exact BI.sep_mono (launch_step s c) (by rw [show s + (n + 1) = s + 1 + n by omega]; exact launch_steps c n (s + 1))

theorem launch_creds (c : Dev nD) : (Pipeline.launchCred (fun d => tallyL (pays d)) c : sProp 𝕄) ⊢ creds c := by
  unfold creds
  have e : (fun d => tallyL (pays d)) = fun d => tallyAt (cell (lft d) .bar) 1 1 + (tallyAt (cell (rgt d) .bar) 1 1 + tallyL (paysFrom d 15 0)) := rfl
  rw [e, Pipeline.launchCred_add, Pipeline.launchCred_add]
  iintro ⟨H1, H2, H⟩
  isplitl [H1 H2]
  · ihave H1 := (Pipeline.launchCred_tallyAt (semOf .bar) lft rgt lft_rgt rgt_lft 1 1 c) $$ H1
    ihave H2 := (Pipeline.launchCred_tallyAt (semOf .bar) rgt lft rgt_lft lft_rgt 1 1 c) $$ H2
    iapply (show iprop(cred (tallyAt (cell c .bar) 1 1) ∗ cred (tallyAt (cell c .bar) 1 1)) ⊢ (cred (tallyAt (cell c .bar) 1 2) : sProp 𝕄) from by
      refine (cred_add _ _).2.trans (Entails.of_eq (congrArg cred ?_))
      rw [tallyAt_add])
    isplitl [H1]; · iexact H1
    iexact H2
  · iapply (launch_steps c 15 0); iexact H

/-! ## The start -/

/-- A device's positions and counts. -/
def places (c : Dev nD) : sProp 𝕄 :=
  iprop((bigSep Finset.univ fun x : Cx => atPos ER (cell c x) 0 ∅ 0) ∗ bigSep Finset.univ fun b : Fin 4 × Fin 2 => Release.readerAt EQ (c, b.1, b.2) 0)

/-- The tokens of the steps from `s` on. -/
theorem toks_chain (c : Dev nD) : ∀ n s : ℕ, s + n = 15 →
    (iprop((bigSep (Finset.Ico (s + 2) 16) fun t => both fun e => stgTok c e t) ∗ bigSep (Finset.Ico s 15) fun s => four fun r => ringToks c r s) : sProp 𝕄)
      ⊢ toksFrom c n s
  | 0, s, _ => by unfold toksFrom; iintro -; iempintro
  | n + 1, s, h => by
    rw [Ico_peel (show s < 15 by omega)]
    unfold toksFrom stepToks stgToks
    rcases Nat.lt_or_ge (s + 2) 16 with h' | h'
    · rw [Ico_peel h', if_pos h']
      iintro ⟨⟨Hg, Hgs⟩, Hr, Hrs⟩
      isplitl [Hg Hr]
      · isplitl [Hg]; · iexact Hg
        iexact Hr
      iapply (toks_chain c n (s + 1) (by omega))
      isplitl [Hgs]; · iexact Hgs
      iexact Hrs
    · rw [if_neg (show ¬ s + 2 < 16 by omega), Finset.Ico_eq_empty_of_le h', bigSep_empty]
      iintro ⟨-, Hr, Hrs⟩
      isplitl [Hr]
      · isplitr; · iempintro
        iexact Hr
      iapply (toks_chain c n (s + 1) (by omega))
      isplitr
      · rw [Finset.Ico_eq_empty_of_le (show 16 ≤ s + 1 + 2 by omega), bigSep_empty]; iempintro
      iexact Hrs

/-- The credits' duties at the steps they are given at. -/
theorem crd_steps (Φ : ℕ → sProp 𝕄) : bigSep (Finset.range 13) (fun s => Φ (s + 1))
    ⊢ bigSep (Finset.Ico 0 15) fun s => if 1 ≤ s ∧ s ≤ 13 then Φ s else iprop(emp) := by
  rw [show Finset.Ico 0 15 = insert 0 (insert 14 ((Finset.range 13).map (addRightEmbedding 1))) from by decide,
    bigSep_insert (by decide), bigSep_insert (by decide), bigSep_map, if_neg (by decide), if_neg (by decide)]
  show _ ⊢ (iprop(emp ∗ emp ∗ bigSep (Finset.range 13) fun s => if 1 ≤ addRightEmbedding 1 s ∧ addRightEmbedding 1 s ≤ 13 then Φ (addRightEmbedding 1 s) else iprop(emp)) : sProp 𝕄)
  iintro H
  isplitr; · iempintro
  isplitr; · iempintro
  iapply (show bigSep (Finset.range 13) (fun s => Φ (s + 1)) ⊢ bigSep (Finset.range 13) (fun s => if 1 ≤ addRightEmbedding 1 s ∧ addRightEmbedding 1 s ≤ 13 then Φ (addRightEmbedding 1 s) else iprop(emp)) from
    bigSep_mono fun s hs => by
      rw [if_pos (show 1 ≤ addRightEmbedding 1 s ∧ addRightEmbedding 1 s ≤ 13 from ⟨Nat.le_add_left _ _, Finset.mem_range.mp hs⟩)]; rfl)
  iexact H

theorem four_if (p : Prop) [Decidable p] (P : Fin 4 → sProp 𝕄) :
    (if p then four P else iprop(emp)) ⊢ four fun r => if p then P r else iprop(emp) := by
  by_cases h : p
  · simp only [if_pos h]; exact Entails.of_eq rfl
  · simp only [if_neg h]; unfold four
    iintro -
    isplitr; · iempintro
    isplitr; · iempintro
    isplitr; · iempintro
    iempintro

/-- A device's tokens and credits, as its steps spend them. -/
theorem spend_intro (c : Dev nD) : iprop(payToks c ∗ creds c)
    ⊢ (iprop(barToks c ∗ cred (tallyAt (cell c .bar) 1 2) ∗ (both (fun e => stgTok c e 0) ∗ both (fun e => stgTok c e 1) ∗ both (fun e => stgTok c e 2))
      ∗ four (fun r => ringToks c r 0) ∗ toksFrom c 14 1 ∗ four (fun r => stgTok c (row r) (outT r))) : sProp 𝕄) := by
  unfold payToks creds
  rw [steps_both 19 fun t e => (stgTok c e t : sProp 𝕄), steps_four 13 fun s r => (crdTok c r (s + 1) : sProp 𝕄), steps_four 15 fun s r => (sendTok c r s : sProp 𝕄),
    Finset.range_eq_Ico 19, Finset.range_eq_Ico 15]
  have hr : (iprop((bigSep (Finset.Ico 0 15) fun s => four fun r => sendTok c r s) ∗ (bigSep (Finset.Ico 0 15) fun s => four fun r => iprop(rcvCred c r s ∗ crdNext c r s))
      ∗ bigSep (Finset.Ico 0 15) fun s => if 1 ≤ s ∧ s ≤ 13 then four (fun r => crdTok c r s) else iprop(emp)) : sProp 𝕄)
      ⊢ bigSep (Finset.Ico 0 15) fun s => four fun r => ringToks c r s := by
    rw [← bigSep_sep', ← bigSep_sep']
    refine bigSep_mono fun s _ => ?_
    refine (sep_mono_right (sep_mono_right (four_if _ _))).trans ?_
    refine (sep_mono_right (four_sep _ _).1).trans ((four_sep _ _).1.trans (four_mono fun r => ?_))
    unfold ringToks
    iintro ⟨Hs, ⟨Hc, Hn⟩, Ht⟩
    isplitl [Hs]; · iexact Hs
    isplitl [Hc]; · iexact Hc
    isplitl [Ht]; · iexact Ht
    iexact Hn
  have hg : (bigSep (Finset.Ico 0 19) fun t => both fun e => (stgTok c e t : sProp 𝕄))
      = iprop((bigSep (Finset.Ico 0 16) fun t => both fun e => stgTok c e t) ∗ both (fun e => stgTok c e 16) ∗ both (fun e => stgTok c e 17) ∗ both (fun e => stgTok c e 18)) := by
    rw [show Finset.Ico 0 19 = Finset.Ico 0 16 ∪ {16, 17, 18} from by decide, bigSep_union (by decide), bigSep_insert (by decide), bigSep_insert (by decide), bigSep_singleton]
    rfl
  rw [hg, Ico_peel (show 0 < 16 by omega), Ico_peel (show 0 + 1 < 16 by omega), Ico_peel (show 0 + 1 + 1 < 16 by omega)]
  iintro ⟨⟨Hb, ⟨⟨Hg0, Hg1, Hg2, Hgs⟩, H16, -, H18⟩, Hc, Hs⟩, Hcb, Hcr⟩
  isplitl [Hb]; · iexact Hb
  isplitl [Hcb]; · iexact Hcb
  isplitl [Hg0 Hg1 Hg2]
  · isplitl [Hg0]; · iexact Hg0
    isplitl [Hg1]; · iexact Hg1
    iexact Hg2
  ihave Hc := (crd_steps fun s => (four (fun r => crdTok c r s) : sProp 𝕄)) $$ Hc
  ihave Hr := hr $$ [Hs Hcr Hc]
  · isplitl [Hs]; · iexact Hs
    isplitl [Hcr]; · iexact Hcr
    iexact Hc
  ihave Hr := (Entails.of_eq (Ico_peel (show 0 < 15 by omega) fun s => four fun r => (ringToks c r s : sProp 𝕄))) $$ Hr
  icases Hr with ⟨Hr0, Hrs⟩
  isplitl [Hr0]; · iexact Hr0
  isplitl [Hgs Hrs]
  · iapply (toks_chain c 14 1 rfl)
    isplitl [Hgs]; · iexact Hgs
    iexact Hrs
  unfold four both
  icases H16 with ⟨Ha, Hb⟩
  icases H18 with ⟨Hc, Hd⟩
  isplitl [Hc]; · iexact Hc
  isplitl [Hd]; · iexact Hd
  isplitl [Ha]; · iexact Ha
  iexact Hb

/-- A ring's resources at the start. -/
theorem ringStart_intro (c : Dev nD) (r : Fin 4) :
    iprop(records m K J ∗ atPos ER (cell c (.crd r)) 0 ∅ 0 ∗ (atPos ER (cell c (.snd r 0)) 0 ∅ 0 ∗ atPos ER (cell c (.snd r 1)) 0 ∅ 0)
        ∗ (atPos ER (cell c (.rcv r 0)) 0 ∅ 0 ∗ atPos ER (cell c (.rcv r 1)) 0 ∅ 0)
        ∗ (Release.readerAt EQ (c, r, 0) 0 ∗ Release.readerAt EQ (c, r, 1) 0)
        ∗ (any c (bufM S4b r 0) ∗ any c (bufM S4b r 1)) ∗ (any c (bufM R5 r 0) ∗ any c (bufM R5 r 1)))
      ⊢ ringStart c r := by
  unfold ringStart rcv0
  rw [sndSt_lt c r (show 0 < 2 by omega), sndSt_lt c r (show 1 < 2 by omega)]
  unfold sndPos sndAny crdSt
  iintro ⟨#HI, Hc, ⟨Hs0, Hs1⟩, ⟨Hr0, Hr1⟩, ⟨Hd0, Hd1⟩, ⟨Ha0, Ha1⟩, Hb0, Hb1⟩
  isplitl [Hs0 Ha0]
  · isplitl [Hs0]
    · isplitl [Hs0]; · iexact Hs0
      iapply (reached_at m K J c (.snd r 0)); iexact HI
    iexact Ha0
  isplitl [Hs1 Ha1]
  · isplitl [Hs1]
    · isplitl [Hs1]; · iexact Hs1
      iapply (reached_at m K J c (.snd r 1)); iexact HI
    iexact Ha1
  isplitl [Hr0 Hd0 Hb0]
  · isplitl [Hr0]; · iexact Hr0
    isplitl [Hd0]; · iexact Hd0
    iexact Hb0
  isplitl [Hr1 Hd1 Hb1]
  · isplitl [Hr1]; · iexact Hr1
    isplitl [Hd1]; · iexact Hd1
    iexact Hb1
  iexists ∅
  isplitr; · ipureintro; exact ⟨Finset.empty_subset _, Nat.zero_le _⟩
  isplitl [Hc]; · iexact Hc
  rw [bigSep_empty]; iempintro

/-- A staging slot idle at the start. -/
theorem stgIdle_intro (c : Dev nD) (t : ℕ) (ht : t < 3) :
    iprop(records m K J ∗ both (fun e => atPos ER (cell c (.stg e (tri t))) 0 ∅ 0) ∗ both (fun e => any c (stageM X3 e (tri t))))
      ⊢ both fun e => stgIdle c e t := by
  unfold both stgIdle stgFree stgAny
  rw [show t / 3 = 0 by omega]
  iintro ⟨#HI, ⟨H0, H1⟩, A0, A1⟩
  isplitl [H0 A0]
  · isplitl [H0]
    · isplitl [H0]; · iexact H0
      iapply (reached_at m K J c (.stg 0 (tri t))); iexact HI
    iexact A0
  · isplitl [H1]
    · isplitl [H1]; · iexact H1
      iapply (reached_at m K J c (.stg 1 (tri t))); iexact HI
    iexact A1

/-- All that a device's body starts from. -/
theorem start_intro (c : Dev nD) :
    iprop(records m K J ∗ places c ∗ payToks c ∗ creds c
        ∗ (both (fun e => any c (stageM X3 e 0)) ∗ both (fun e => any c (stageM X3 e 1)) ∗ both (fun e => any c (stageM X3 e 2)))
        ∗ four (fun r => iprop(any c (bufM S4b r 0) ∗ any c (bufM S4b r 1))) ∗ four (fun r => iprop(any c (bufM R5 r 0) ∗ any c (bufM R5 r 1))))
      ⊢ Start c := by
  unfold places Start
  rw [cx_split]
  iintro ⟨#HI, ⟨⟨Hb, Hat⟩, Hrd⟩, Ht, Hc, ⟨X0, X1, X2⟩, HS, HR⟩
  ihave Hat := (own_split fun x => (atPos ER (cell c x) 0 ∅ 0 : sProp 𝕄)).1 $$ Hat
  icases Hat with ⟨Hcr, ⟨Hg0, Hg1, Hg2⟩, Hsn, Hrc⟩
  ihave Hrd := (Entails.of_eq (pairs_four fun b => (Release.readerAt EQ (c, b.1, b.2) 0 : sProp 𝕄))) $$ Hrd
  ihave H := (spend_intro c) $$ [Ht Hc]
  · isplitl [Ht] <;> iassumption
  icases H with ⟨Hbt, Hbc, Hgt, Hr0, Hts, Hot⟩
  isplitl [Hb Hbt Hbc]
  · isplitl [Hbt]; · iexact Hbt
    isplitl [Hb]; · iexact Hb
    iexact Hbc
  isplitl [Hcr Hsn Hrc Hrd HS HR]
  · iapply (four_with fun r => ringStart_intro m K J c r)
    isplitr; · iexact HI
    iapply (four_sep _ _).1; isplitl [Hcr]; · iexact Hcr
    iapply (four_sep _ _).1; isplitl [Hsn]; · iexact Hsn
    iapply (four_sep _ _).1; isplitl [Hrc]; · iexact Hrc
    iapply (four_sep _ _).1; isplitl [Hrd]; · iexact Hrd
    iapply (four_sep _ _).1; isplitl [HS]; · iexact HS
    iexact HR
  isplitl [Hg0 Hg1 Hg2 X0 X1 X2]
  · isplitl [Hg0 X0]
    · iapply (stgIdle_intro m K J c 0 (by omega)); isplitr; · iexact HI
      isplitl [Hg0]; · iexact Hg0
      iexact X0
    isplitl [Hg1 X1]
    · iapply (stgIdle_intro m K J c 1 (by omega)); isplitr; · iexact HI
      isplitl [Hg1]; · iexact Hg1
      iexact X1
    iapply (stgIdle_intro m K J c 2 (by omega)); isplitr; · iexact HI
    isplitl [Hg2]; · iexact Hg2
    iexact X2
  isplitl [Hgt]; · iexact Hgt
  isplitl [Hr0]; · iexact Hr0
  isplitl [Hts]; · iexact Hts
  iexact Hot

end Cert.KernelIdeal.Ring

end
-- ==== Proof.Launch.lean ====
/- The launch: the cells opened, the tokens minted, the body run between them, and the run of the whole mesh. -/
module

public import proofs.«01_k».proof.Proof.Deal
public import Idealize.ShloMosaic.Lib.Pipeline.CollectiveSegs

@[expose] public section

set_option maxRecDepth 10000

noncomputable section

namespace Cert.KernelIdeal.Ring

open Idealize.ShloMosaic Idealize.SL.Sem Cert.KernelIdeal.Gen
open Idealize.ShloMosaic.TcCoe
open Idealize.SL Idealize.SL.RA Idealize.SL.BI
open scoped Idealize.SL.BI
open Idealize.SL.BI.BIBase Idealize.SL.BI.Laws Idealize.SL.ProofMode
open Idealize.ShloMosaic.Rounds (URounds Schedule cellInv atPos reached dutyTok roundState initOf)
open Idealize.ShloMosaic.TalkSites (tallyL)
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ)

variable (ρ : Dev nD → PrngReg)

/-- The memory at launch: arbitrary contents, every counter zero, arbitrary generator registers. -/
def s₀ : MemSt nD τ sig (Elt F) := ⟨m, fun _ => 0, ρ⟩

abbrev t₀ : Fin cfg0.N := t0_0
theorem fin_N (t : Fin cfg0.N) : t = t₀ := fin_N0 t

/-! ## Before and after the body -/

/-- The records but for the levels. -/
def records0 (K : Dev nD × Cx → ℕ) (J : Key → ℕ) : sProp 𝕄 :=
  iprop((bigSep Finset.univ fun cx : Dev nD × Cx => cellInv ER (Rd m) (K cx) (cell cx.1 cx.2))
    ∗ (bigSep Finset.univ fun cx : Dev nD × Cx => reached ER (cell cx.1 cx.2) 0)
    ∗ (bigSep Finset.univ fun k : Key => Release.slotInv EQ (J k) k (any k.1 (bufM R5 k.2.1 k.2.2))))

instance records0_persistent (K : Dev nD × Cx → ℕ) (J : Key → ℕ) : BI.Persistent (records0 m K J) := by unfold records0; infer_instance

theorem records_eq (K : Dev nD × Cx → ℕ) (J : Key → ℕ) : iprop(records0 m K J ∗ levs F) ⊢ records m K J := by
  unfold records0 records
  iintro ⟨⟨H1, H2, H3⟩, H4⟩
  isplitl [H1]; · iexact H1
  isplitl [H2]; · iexact H2
  isplitl [H3]; · iexact H3
  iexact H4

/-- What the opening step leaves a device. -/
def G' (c : Dev nD) : sProp 𝕄 := iprop(∃ K J, records0 m K J ∗ places c ∗ payToks c)

/-- What a device's body starts from, but for its scratch buffers. -/
def start (c : Dev nD) : sProp 𝕄 :=
  iprop(G' m c ∗ levs F ∗ creds c ∗ xPts m c ∗ whole c main_v1)

def Φ₀ (c : Dev nD) : sProp 𝕄 := iprop(start m c ∗ whole c cc0_scratch0 ∗ whole c cc0_scratch1 ∗ whole c cc0_scratch2)

def dats (_ : Fin 1) (c : Dev nD) : Dat τ (Elt F) ℕ ℕ UU ℕ cfg0 c where
  A w := m ((cfg0.win w).arr.view.loc (c : Thread nD τ))
  after w _ := match w with
    | ⟨0, _⟩ => wstg m c
    | ⟨_ + 1, h⟩ => absurd h (Nat.not_lt.2 (Nat.le_add_left _ _))
  Φ t := match t with
    | ⟨0, _⟩ => Φ₀ m c
    | ⟨_ + 1, _⟩ => Left m c
  q _ := fullShare
  owed t := match t with
    | ⟨0, _⟩ => tallyL (pays c)
    | ⟨_ + 1, _⟩ => 0

theorem bigSep_W (Φ : Fin cfg0.W → sProp 𝕄) : bigSep Finset.univ Φ = Φ (0 : Fin 1) := bigSep_W0 Φ
theorem fetch_0 (t : Fin cfg0.N) : (cfg0.win (0 : Fin 1)).fetch t = true := by rw [fin_N t]; rfl

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem before_0 (c : Dev nD) (d) : (dats m 0 c).before (0 : Fin 1) t₀ d = wstg m c := by
  unfold Dat.before; rw [if_pos (fetch_0 t₀)]; rfl

/-- The staged buffer at some contents. -/
abbrev staged (c : Dev nD) (X : (cc0_stg0_0 : Ref sig .tc).ty.Contents (Elt F)) : sProp 𝕄 :=
  iprop(∃ f : Buf (Elt F) (((c : Dev nD) : Thread nD τ).loc cc0_stg0_0), ⌜f = X⌝ ∗ (((c : Thread nD τ).loc cc0_stg0_0) ↦{fullShare} f))

def bodyPre (c : Dev nD) : sProp 𝕄 :=
  iprop(Φ₀ m c ∗ (dats m 0 c).owesAt 0 t₀.castSucc ∗ (∃ d, staged c ((dats m 0 c).before (0 : Fin 1) t₀ d)))
def bodyPost (c : Dev nD) : sProp 𝕄 :=
  iprop(Left m c ∗ (dats m 0 c).owesAt 0 t₀.succ ∗ staged c (wstg m c))

/-- A device's whole body, from what the launch gives it to what it hands back. -/
theorem device_body (c : Dev nD) :
    bodyPre m c ⊢ WP c (body A0 W1 O2 X3 S4b R5 cc0_scratch3 cc0_scratch4 cc0_scratch5 cc0_scratch6) (fun _ => bodyPost m c) := by
  refine BIBase.Entails.trans ?_ (wp_fupd frame _ Set.univ _ _)
  unfold bodyPre Φ₀ start G' Dat.owesAt Pipeline.owesWithin
  iintro ⟨⟨⟨⟨%K, %J, #H0, Hpl, Hpt⟩, #Hlev, Hcr, Hx, Hv⟩, HX, HS, HR⟩, ⟨%W, -, HO⟩, ⟨%d, %f, %hf, Hw⟩⟩
  ihave #HI := (records_eq m K J) $$ []
  · isplitr; · iexact H0
    iexact Hlev
  ihave HX := (stage_split c) $$ HX
  icases HX with ⟨HX, RX⟩
  ihave HS := (send_split c) $$ HS
  icases HS with ⟨HS, RS⟩
  ihave HR := (recv_split c) $$ HR
  icases HR with ⟨HR, RR⟩
  ihave Hv := (out_split c) $$ Hv
  ihave Hst := (start_intro m K J c) $$ [Hpl Hpt Hcr HX HS HR]
  · isplitr; · iexact HI
    isplitl [Hpl]; · iexact Hpl
    isplitl [Hpt]; · iexact Hpt
    isplitl [Hcr]; · iexact Hcr
    isplitl [HX]; · iexact HX
    isplitl [HS]; · iexact HS
    iexact HR
  rw [before_0] at hf
  subst hf
  iapply (body_wp m K J c (Q := fun _ => iprop(|={Set.univ}=> bodyPost m c))) $$ [HO Hst Hv Hx Hw]
  · isplitr; · iexact HI
    isplitl [HO]
    · unfold owesL; iexists W; iexact HO
    isplitl [Hst]; · iexact Hst
    isplitl [Hv]; · iexact Hv
    isplitl [Hx]; · iexact Hx
    unfold wPts; iexact Hw
  iintro ⟨HO, HE, -, Hw⟩
  imod (end_left m K J c) $$ [HE RX RS RR] with HL
  · isplitr; · iexact HI
    isplitl [HE]; · iexact HE
    isplitl [RX]; · iexact RX
    isplitl [RS]; · iexact RS
    iexact RR
  imodintro
  unfold bodyPost Dat.owesAt Pipeline.owesWithin owesL
  icases HO with ⟨%W', HO⟩
  isplitl [HL]; · iexact HL
  isplitl [HO]
  · iexists W'
    isplitr; · ipureintro; exact fun _ _ => Or.inl trivial
    iexact HO
  iexists (wstg m c)
  isplitr; · ipureintro; rfl
  unfold wPts; iexact Hw

attribute [local irreducible] cc0_body

/-- What the launch asks of the body. -/
theorem body_obligation (c : Dev nD) : BodyObligation (dats m 0 c) (defs₀ (F := F)) 𝒱₀ 0 Set.univ := fun t => by
  rw [fin_N t]
  rw [bigSep_W, bigSep_W]
  simp only [owns_whole]
  show bodyPre m c ⊢ WP c (cc0_body A0 (Memref.isWhole_whole _) W1 (Memref.isWhole_whole _) O2 (Memref.isWhole_whole _) X3 (Memref.isWhole_whole _)
    S4b (Memref.isWhole_whole _) R5 (Memref.isWhole_whole _) cc0_scratch3 cc0_scratch4 cc0_scratch5 cc0_scratch6) (fun _ => bodyPost m c)
  rw [body_eq]
  exact device_body m c

/-! ## The launch -/

theorem ownSemFacts : Pipeline.OwnSemFacts cfg0.spec osem := by decide

theorem share_eq (c : Dev nD) (w : Fin cfg0.W) : (dats m 0 c).share w = fullShare := by unfold Dat.share; split <;> rfl

theorem cells_injective : Function.Injective fun cx : Dev nD × Cx => cell cx.1 cx.2 := fun a b h =>
  Prod.ext (cell_inj h).1 (cell_inj h).2
def ringCells : Finset (GSem nD τ sig) := Finset.univ.map ⟨fun cx : Dev nD × Cx => cell cx.1 cx.2, cells_injective⟩
def mintToks : Finset (GSem nD τ sig × ℕ × ℕ) := Finset.univ.map ⟨tokOf, tokOf_injective⟩

/-- The launch element: the staging's, the cells' and the receive slots'. -/
def u₀ : UU :=
  (initOf (Pipeline.cells cfgs cellOf_inj) (Pipeline.launchToks cfgs cellOf_inj), (initOf ringCells mintToks, Release.initSlots (Finset.univ : Finset Key) 8))

/-- What the launch element gives a device of its cells. -/
def Gc (c : Dev nD) : sProp 𝕄 :=
  iprop((bigSep Finset.univ fun x : Cx => roundState ER (Rd m) (cell c x) 0) ∗ (bigSep Finset.univ fun x : Cx => atPos ER (cell c x) 0 ∅ 0)
    ∗ (bigSep Finset.univ fun x : Cx => reached ER (cell c x) 0) ∗ ownToks c)
/-- And of its receive slots. -/
def Gs (c : Dev nD) : sProp 𝕄 :=
  iprop((bigSep Finset.univ fun b : Fin 4 × Fin 2 => iprop(∃ κ : ℕ, Release.slotInv EQ κ (c, b.1, b.2) (any c (bufM R5 b.1 b.2))))
    ∗ (bigSep Finset.univ fun b : Fin 4 × Fin 2 => Release.readerAt EQ (c, b.1, b.2) 0) ∗ ownWrites c)
def G (c : Dev nD) : sProp 𝕄 := iprop(Gc m c ∗ Gs c)

theorem fund_cells : BI.own (ER (initOf ringCells mintToks)) ⊢ (|==> bigSep Finset.univ (Gc m) : sProp 𝕄) := by
  have hX (Φ : GSem nD τ sig → sProp 𝕄) : bigSep ringCells Φ = bigSep Finset.univ fun c : Dev nD => bigSep Finset.univ fun x : Cx => Φ (cell c x) := by
    unfold ringCells; rw [bigSep_map, bigSep_univ_prod]; rfl
  have hT : bigSep mintToks (fun x => (dutyTok ER x.1 x.2.1 x.2.2 : sProp 𝕄)) = bigSep Finset.univ fun c : Dev nD => ownToks c := by
    unfold mintToks; rw [bigSep_map, bigSep_univ_prod]
    refine bigSep_congr fun c _ => ?_
    unfold ownToks
    rw [bigSep_univ_sum, bigSep_univ_sum, bigSep_univ_sum, bigSep_univ_sum, bigSep_univ_two]
    rfl
  iintro HX
  imod (Rounds.fund ER (Rd m) ringCells mintToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold Gc; simp only [bigSep_sep']
  isplitl [Hst]; · iexact Hst
  isplitl [Hat]; · iexact Hat
  isplitl [Hr]; · iexact Hr
  iexact Htok

/-- A write to a receive slot, by its device, step and ring. -/
def writeOf (y : Dev nD × (Fin 15 × Fin 4)) : Key × ℕ := ((y.1, y.2.2, par y.2.1.val), y.2.1.val / 2)
theorem writeOf_injective : Function.Injective writeOf := by
  rintro ⟨c, s, r⟩ ⟨c', s', r'⟩ h
  have h1 : c = c' := congrArg (fun y : Key × ℕ => y.1.1) h
  have h2 : r = r' := congrArg (fun y : Key × ℕ => y.1.2.1) h
  have h3 : par s.val = par s'.val := congrArg (fun y : Key × ℕ => y.1.2.2) h
  have h4 : s = s' := Fin.ext (par_div h3 (congrArg (fun y : Key × ℕ => y.2) h))
  rw [h1, h2, h4]

theorem fund_slots : BI.own (EQ (Release.initSlots (Finset.univ : Finset Key) 8)) ⊢ (|={Set.univ}=> bigSep Finset.univ fun c : Dev nD => Gs c : sProp 𝕄) := by
  have hX (Φ : Key → sProp 𝕄) : bigSep Finset.univ Φ = bigSep Finset.univ fun c : Dev nD => bigSep Finset.univ fun b : Fin 4 × Fin 2 => Φ (c, b.1, b.2) :=
    bigSep_univ_prod _
  have hW : (bigSep ((Finset.univ : Finset Key) ×ˢ Finset.range 8) fun x => (Release.writeTok EQ x.1 (x.2 + 1) : sProp 𝕄)) ⊢ bigSep Finset.univ fun c : Dev nD => ownWrites c := by
    refine BIBase.Entails.trans (bigSep_subset (t := Finset.univ.map ⟨writeOf, writeOf_injective⟩) fun x hx => ?_) (Entails.of_eq ?_)
    · obtain ⟨y, -, rfl⟩ := Finset.mem_map.mp hx
      have := y.2.1.isLt
      refine Finset.mem_product.mpr ⟨Finset.mem_univ _, Finset.mem_range.mpr ?_⟩
      show y.2.1.val / 2 < 8
      omega
    · rw [bigSep_map, bigSep_univ_prod]; rfl
  iintro H
  imod (Release.slots_init (E := EQ) (Finset.univ : Finset Key) 8 fun k => (any k.1 (bufM R5 k.2.1 k.2.2) : sProp 𝕄)) $$ H with ⟨%J, -, HI, Hr, Hw⟩
  imodintro
  ihave Hw := hW $$ Hw
  ihave Hr := (Entails.of_eq (hX fun k => Release.readerAt EQ k 0)) $$ Hr
  have hI : (bigSep Finset.univ fun k : Key => (Release.slotInv EQ (J k) k (any k.1 (bufM R5 k.2.1 k.2.2)) : sProp 𝕄))
      ⊢ bigSep Finset.univ fun c : Dev nD => bigSep Finset.univ fun b : Fin 4 × Fin 2 => iprop(∃ κ : ℕ, Release.slotInv EQ κ (c, b.1, b.2) (any c (bufM R5 b.1 b.2))) := by
    rw [← hX fun k : Key => iprop(∃ κ : ℕ, Release.slotInv EQ κ k (any k.1 (bufM R5 k.2.1 k.2.2)))]
    refine bigSep_mono fun k _ => ?_
    show (Release.slotInv EQ (J k) k (any k.1 (bufM R5 k.2.1 k.2.2)) : sProp 𝕄) ⊢ iprop(∃ κ : ℕ, Release.slotInv EQ κ k (any k.1 (bufM R5 k.2.1 k.2.2)))
    iintro H; iexists (J k); iexact H
  ihave HI := hI $$ HI
  unfold Gs; simp only [bigSep_sep']
  isplitl [HI]; · iexact HI
  isplitl [Hr]; · iexact Hr
  iexact Hw

/-- The launch element funds every device. -/
theorem fund_all : BI.own (embR (initOf ringCells mintToks, Release.initSlots (Finset.univ : Finset Key) 8)) ⊢ (|={Set.univ}=> bigSep Finset.univ (G m) : sProp 𝕄) := by
  iintro H
  ihave H := (own_pair_emb embR _ _) $$ H
  icases H with ⟨HC, HS⟩
  imod (fund_cells m) $$ HC with HC
  imod fund_slots $$ HS with HS
  imodintro
  unfold G; rw [bigSep_sep']
  isplitl [HC]; · iexact HC
  iexact HS

theorem unscopedSems0_eq (c : Dev nD) : (unscopedSems0 c : sProp 𝕄) = semVal (cell c .bar) 0 := by
  unfold unscopedSems0; rw [bigSep_eq_bigSepL_of_eq [SemLoc.reg barS] (by decide) (by decide)]; rfl
theorem ownSems0_eq (c : Dev nD) : (Pipeline.ownSems0 (Ix := ℕ) (Name := ℕ) (U := UU) (Lvl := ℕ) (Val := Elt F) (τ := τ) osem c : sProp 𝕄)
    = bigSep Finset.univ fun o => semVal (cell c (ofOwn o)) 0 := rfl

/-- A device's cells opened. -/
theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun x => iprop(∃ κ : ℕ, cellInv ER (Rd m) κ (cell c x)))
          ∗ (bigSep Finset.univ fun x : Cx => atPos ER (cell c x) 0 ∅ 0) ∗ (bigSep Finset.univ fun x : Cx => reached ER (cell c x) 0) ∗ ownToks c ∗ Gs c) := by
  unfold G Gc
  rw [ownSems0_eq, unscopedSems0_eq]
  iintro ⟨Hos, Hus, ⟨Hst, Hat, Hr, Htok⟩, HS⟩
  imod (show iprop((bigSep Finset.univ fun x : Cx => semVal (cell c x) 0) ∗ bigSep Finset.univ fun x : Cx => roundState ER (Rd m) (cell c x) 0)
      ⊢ (|={Set.univ}=> bigSep Finset.univ fun x => iprop(∃ κ : ℕ, cellInv ER (Rd m) κ (cell c x)) : sProp 𝕄) from by
        rw [← bigSep_sep']
        exact (bigSep_mono fun x _ => (Rounds.body_intro ER (Rd m) (cell c x)).trans inv_alloc).trans (bigSep_fupd _ _)) $$ [Hos Hus Hst] with Hinv
  · isplitl [Hos Hus]
    · iapply (Entails.of_eq (cx_split fun x => (semVal (cell c x) 0 : sProp 𝕄)).symm)
      isplitl [Hus]; · iexact Hus
      iexact Hos
    iexact Hst
  imodintro
  isplitl [Hinv]; · iexact Hinv
  isplitl [Hat]; · iexact Hat
  isplitl [Hr]; · iexact Hr
  isplitl [Htok]; · iexact Htok
  iexact HS

/-- Shared records go to every device. -/
theorem share_records {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun x => iprop(∃ κ : ℕ, cellInv ER (Rd m) κ (cell c x)))
          ∗ (bigSep Finset.univ fun x : Cx => atPos ER (cell c x) 0 ∅ 0) ∗ (bigSep Finset.univ fun x : Cx => reached ER (cell c x) 0) ∗ ownToks c ∗ Gs c) : sProp 𝕄)
      ⊢ bigSep Finset.univ (G' m) := by
  unfold Gs
  simp only [bigSep_sep']
  rw [← bigSep_univ_prod (fun cx : Dev nD × Cx => iprop(∃ κ : ℕ, cellInv ER (Rd m) κ (cell cx.1 cx.2))),
    ← bigSep_univ_prod (fun cx : Dev nD × Cx => (reached ER (cell cx.1 cx.2) 0 : sProp 𝕄)),
    ← bigSep_univ_prod (fun k : Key => iprop(∃ κ : ℕ, Release.slotInv EQ κ k (any k.1 (bufM R5 k.2.1 k.2.2) : sProp 𝕄)))]
  iintro ⟨HI, Hat, #HR, Htok, HJ, Hrd, Hw⟩
  ihave HK := (BI.bigSep_exists_pi Finset.univ (fun (cx : Dev nD × Cx) (κ : ℕ) => (cellInv ER (Rd m) κ (cell cx.1 cx.2) : sProp 𝕄))) $$ HI
  icases HK with ⟨%K, #HI⟩
  ihave HK := (BI.bigSep_exists_pi Finset.univ (fun (k : Key) (κ : ℕ) => (Release.slotInv EQ κ k (any k.1 (bufM R5 k.2.1 k.2.2)) : sProp 𝕄))) $$ HJ
  icases HK with ⟨%J, #HJ⟩
  ihave Htk := toks_around $$ [Htok Hw]
  · isplitl [Htok]; · iexact Htok
    iexact Hw
  iapply (share_records (R := records0 m K J) (Φ := fun c => iprop(places c ∗ payToks c)) fun c => by
    unfold G'; iintro H; iexists K, J; iexact H)
  isplitr
  · unfold records0; isplitr; · iexact HI
    isplitr; · iexact HR
    iexact HJ
  · unfold places
    simp only [bigSep_sep']
    isplitl [Hat Hrd]
    · isplitl [Hat]; · iexact Hat
      iexact Hrd
    iexact Htk

/-- The opening step of all devices at once. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The side conditions -/

/-- A share of `x` kept aside. -/
def xKept (c : Dev nD) : sProp 𝕄 := ((c : Thread nD τ).loc main_arg0) ↦{fullShare.left} m ((c : Thread nD τ).loc main_arg0)

theorem launch_start (c : Dev nD) :
    iprop(Pipeline.unscopedRestP Pipeline.Prefetch.none cfg0.spec c (fun b => m ((c : Thread nD τ).loc b)) ∗ levAts L lv
        ∗ Pipeline.launchCred (fun d => tallyL (pays d)) c ∗ prngReg c (ρ c) ∗ G' m c)
      ⊢ |={Set.univ}=> iprop(start m c ∗ xKept m c) := by
  rw [Pipeline.unscopedRestP_none, show cfg0.spec = spec0 from rfl, unscopedRest0_eq]
  iintro ⟨⟨Hx, Hv⟩, Hlev, Hcr, -, HG⟩
  ihave Hc := (launch_creds c) $$ Hcr
  ihave Hx := (pointsTo_share (f := m ((c : Thread nD τ).loc main_arg0)) (PosShare.mem_left_op_right fullShare)).1 $$ Hx
  icases Hx with ⟨Hl, Hr⟩
  imodintro
  unfold start xKept xPts
  isplitr [Hl]
  · isplitl [HG]; · iexact HG
    isplitl [Hlev]; · unfold levs; iexact Hlev
    isplitl [Hc]; · iexact Hc
    isplitl [Hr]; · iexists fullShare.right; iexact Hr
    iexists _; iexact Hv
  · iexact Hl

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show cfg0.spec = spec0 from rfl, scopedRest0_eq]
  unfold Φ₀
  iintro ⟨Hs, -, H⟩
  isplitl [Hs]; · iexact Hs
  iexact H

/-- What a device's end is read off. -/
def ends (c : Dev nD) : sProp 𝕄 := iprop(unscopedSems0 c ∗ four (fun r => outFull m c r))

theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Left m c from rfl, show cfg0.spec = spec0 from rfl, scopedRest0_eq, ownSems0_eq]
  unfold ends Left
  rw [unscopedSems0_eq]
  iintro ⟨Hb, Ho, Hw, Hv⟩
  isplitl [Hb Hv]
  · isplitl [Hb]; · iexact Hb
    iexact Hv
  isplitl [Ho]; · iexact Ho
  iexact Hw

theorem waits (c : Dev nD) : (levAts L lv : sProp 𝕄) ⊢ Pipeline.cellsWaits cfgs (dats m) 0 0 c :=
  Pipeline.cellsWaits_intro cfgs (dats m) 0 0 c fun w s t => by
    rcases t with ⟨_ | t, ht⟩
    · exact mayWait (Nat.le_refl 0) (by omega) c _ (pays_above c)
    · show _ ⊢ MayWait _ _ _ 0
      rw [MayWait_zero]; iintro -; iempintro

/-- What is known of a device's memory at the end: its results, its part of `x`, its counters. -/
def QY (c : Dev nD) (s : MemSt nD τ sig (Elt F)) : Prop :=
  (∀ r, (outM O2 r).view.read (Elt F) (s.mem ((c : Thread nD τ).loc main_v1)) = res m c r)
    ∧ s.mem ((c : Thread nD τ).loc main_arg0) = m ((c : Thread nD τ).loc main_arg0)
    ∧ ∀ sm : SemLoc sig, sm.isScoped .tc = false → s.sem ((c.tc : Thread nD τ), sm) = 0

theorem out_read (c : Dev nD) (r : Fin 4) (s' : Phys nD τ sig (Elt F)) :
    iprop(outFull m c r ∗ SI s') ⊢ (iprop(⌜(outM O2 r).view.read (Elt F) (s'.mem.mem ((c : Thread nD τ).loc main_v1)) = res m c r⌝ ∗ SI s') : sProp 𝕄) := by
  have h : iprop(outFull m c r ∗ SI s') ⊢ (⌜(outM O2 r).view.read (Elt F) (s'.mem.mem ((c : Thread nD τ).loc main_v1)) = res m c r⌝ : sProp 𝕄) := by
    unfold outFull full owns
    iintro ⟨⟨%f, %hf, Hp⟩, HS⟩
    ihave %h := (SI_pointsTo_agree (st := s')) $$ [HS Hp]
    · isplitl [HS]; · iexact HS
      iexact Hp
    ipureintro
    rw [← hf]
    exact View.read_congr h
  refine (persistent_entails_right h).trans ?_
  iintro ⟨H, -, HS⟩
  isplitl [H]; · iexact H
  iexact HS

theorem ends_read (c : Dev nD) (s' : Phys nD τ sig (Elt F)) :
    iprop(ends m c ∗ xKept m c ∗ SI s') ⊢ (|={Set.univ}=> iprop(⌜QY m c s'.mem⌝ ∗ SI s') : sProp 𝕄) := by
  unfold ends four xKept
  iintro ⟨⟨Hu, H0, H2, H1, H3⟩, Hx, HS⟩
  ihave H := (out_read m c 0 s') $$ [H0 HS]
  · isplitl [H0]; · iexact H0
    iexact HS
  icases H with ⟨%h0, HS⟩
  ihave H := (out_read m c 1 s') $$ [H1 HS]
  · isplitl [H1]; · iexact H1
    iexact HS
  icases H with ⟨%h1, HS⟩
  ihave H := (out_read m c 2 s') $$ [H2 HS]
  · isplitl [H2]; · iexact H2
    iexact HS
  icases H with ⟨%h2, HS⟩
  ihave H := (out_read m c 3 s') $$ [H3 HS]
  · isplitl [H3]; · iexact H3
    iexact HS
  icases H with ⟨%h3, HS⟩
  icombine HS Hx gives %hx
  imod (Pipeline.unscopedSems0_read (X := unscopedSems0 c) (c := c) fupd_intro s') $$ [Hu HS] with ⟨%hs, HS⟩
  · isplitl [Hu]; · iexact Hu
    iexact HS
  imodintro
  isplitr
  · ipureintro
    exact ⟨fun r => by fin_cases r <;> assumption, funext fun i => hx i (Finset.mem_univ i), hs⟩
  iexact HS

/-! ## The run -/

set_option maxRecDepth 20000 in
/-- From any memory with zero counters, for any float values: every fair execution of the mesh terminates, and at the end each
    device's result rows are the computed ones, its part of `x` and of `w` is unchanged and every counter is zero. -/
theorem run_main : θ_run defs (onTc (τ := τ) (main (F := F))) (s₀ m ρ)
    (fun r => (∀ c : Dev nD, QY m c r.2 ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => tallyL (pays d)) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := ends m) (Z := xKept m)
    (hX := launch_start m ρ) (hin := phi0_intro m) (hout := phi1_exit m)
    (QY := QY m) (hY := ends_read m)
    (hQ := fun _ h hs => ⟨fun c => ⟨(h c).2.2, ((h c).1 0).trans ((dats m 0 c).arrAt_in (0 : Fin 1) rfl cfg0.N)⟩, sem_eq_zero hs fun c => (h c).2.2.2.2⟩)

end Cert.KernelIdeal.Ring

end
-- ==== Proof.Frames.lean ====
/- The three frames: each program runs to its end, its arguments unchanged and its counters zero. -/
module

public import proofs.«01_k».proof.Defs
public import proofs.«01_k».proof.Proof.Gen.Kernel
public import proofs.«01_k».proof.Proof.Gen.ReferenceIdeal.Run
public import proofs.«01_k».proof.Proof.Launch

@[expose] public section

set_option maxRecDepth 10000

noncomputable section

namespace Cert.Proof

open Idealize.ShloMosaic Idealize.SL.Sem

/-- The kernel over the extended reals runs to its end and leaves its arguments unchanged. -/
theorem frame_ideal : Cert.quiescent_KernelIdeal := fun m ρ _ =>
  (θ_run Cert.KernelIdeal.defs _ _).mono (fun _ h => ⟨fun c => ⟨(h.1 c).1.2.1, (h.1 c).2⟩, h.2⟩) (Cert.KernelIdeal.Ring.run_main (F := Ideal) m ρ)

/-- The two printings of the kernel have one body table: each label's body is the same term. -/
theorem bodies_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  fin_cases l
  obtain ⟨t, s⟩ := a
  rfl

/-- They run alike: what holds of the one's runs holds of the other's. -/
theorem run_kernel (s : MemSt Cert.KernelIdeal.nD Cert.KernelIdeal.τ Cert.KernelIdeal.sig (Elt Bits))
    (Q : _ → Prop) (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  have e : Cert.Kernel.defs (F := Bits) = Cert.KernelIdeal.defs (F := Bits) := congrArg (Pipeline.defs Cert.KernelIdeal.pcfgs) bodies_eq
  have e' : Cert.Kernel.main (F := Bits) = Cert.KernelIdeal.main (F := Bits) := rfl
  exact e ▸ e' ▸ h

/-- The kernel over the machine's floats runs to its end and leaves its arguments unchanged. -/
theorem frame_kernel : Cert.quiescent_Kernel := fun m ρ _ =>
  run_kernel ⟨m, fun _ => 0, ρ⟩ _ ((θ_run Cert.KernelIdeal.defs _ _).mono (fun _ h => ⟨fun c => ⟨(h.1 c).1.2.1, (h.1 c).2⟩, h.2⟩) (Cert.KernelIdeal.Ring.run_main (F := Bits) m ρ))

/-- The reference runs to its end and leaves its arguments unchanged; it has no counter. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩) (Cert.ReferenceIdeal.Value.run (F := Ideal) m ρ)

end Cert.Proof

end
-- ==== Proof.Values.lean ====
/- What the pieces of the kernel's sums are over the extended reals, element by element. -/
module

public import proofs.«01_k».proof.Proof.Sched
public import Idealize.ShloMosaic.Lib.Pointwise
public import Mathlib.Algebra.BigOperators.Fin

@[expose] public section

set_option maxRecDepth 10000

noncomputable section

namespace Cert.KernelIdeal.Ring

open Idealize.ShloMosaic Idealize.SL.Sem Cert.KernelIdeal.Gen
open Idealize.ShloMosaic.TcCoe
open scoped BigOperators

/-! ## Devices and row blocks -/

/-- The right neighbour is the next device. -/
theorem rgt_eq (c : Dev nD) : rgt c = (c + 1 : Fin 16) := by revert c; decide +kernel
/-- The left neighbour is the one before. -/
theorem lft_eq (c : Dev nD) : lft c = (c - 1 : Fin 16) := by revert c; decide +kernel

/-- Which row block of `x` a device takes at a step: its own last, and before that those that are as many steps away. -/
def chunk (e : Fin 2) (c : Dev nD) (s : Fin 16) : Fin 16 := cond (e.val == 0) ((c : Fin 16) - s - 1) ((c : Fin 16) + s + 1)

theorem xoff_eq (e : Fin 2) (c : Dev nD) (s : Fin 16) : xoff e c s = ![(chunk e c s).val * 512, 0] := by
  revert e c s; decide +kernel

/-- The upstream device's row block at a step is a device's own at the next. -/
theorem chunk_up (r : Fin 4) (c : Dev nD) (s : Fin 16) : chunk (row r) (up r c) s = chunk (row r) c (s + 1) := by
  revert r c s; decide +kernel

/-- At the last step the row block is the device's own. -/
theorem chunk_last (e : Fin 2) (c : Dev nD) : chunk e c 15 = c := by revert e c; decide +kernel

/-! ## Elements -/

variable (m : (ℓ : Loc nD τ sig) → Buf (Elt Ideal) ℓ)

/-- An element of a row block of `x`. -/
theorem xv_apply (c : Dev nD) (e : Fin 2) (s : Fin 16) (p k : Fin 512) :
    xv m c e s (ix2 p k) = m ((c : Thread nD τ).loc main_arg0)
      (ix2 (⟨(chunk e c s).val * 512 + p.val, by have := (chunk e c s).isLt; omega⟩ : Fin 8192) (k : Fin 512)) := by
  unfold xv
  refine congrArg (m ((c : Thread nD τ).loc main_arg0)) (a₁ := (xM A0 e c s).view.emb (ix2 p k)) (funext fun a => Fin.ext ?_)
  match a with
  | ⟨0, _⟩ => show xoff e c s 0 + 1 * p.val = _; rw [xoff_eq]; show _ = (chunk e c s).val * 512 + p.val; simp
  | ⟨1, _⟩ => show xoff e c s 1 + 1 * k.val = k.val; rw [xoff_eq]; simp

/-- A column of a ring among all columns. -/
def colOf (r : Fin 4) (q : Fin 1024) : Fin 4096 := ⟨r.val * 1024 + q.val, by omega⟩

/-- An element of a ring's columns of `w`. -/
theorem wcol_apply (c : Dev nD) (r : Fin 4) (k : Fin 512) (q : Fin 1024) :
    wcol m c r (ix2 k q) = m ((c : Thread nD τ).loc main_arg1) (ix2 k (colOf r q)) := by
  unfold wcol wstg
  rw [View.readAt_eq_ld]
  refine congrArg (m ((c : Thread nD τ).loc main_arg1)) (a₁ := (win0_0.blk (0 : Fin 1)).view.emb (W1.view.emb ((colRect r).idx (ix2 k q))))
    (funext fun a => Fin.ext ?_)
  match a with
  | ⟨0, _⟩ => show 0 * 512 + 1 * (0 + 1 * k.val) = k.val; omega
  | ⟨1, _⟩ => show 0 * 4096 + 1 * (r.val * 1024 + 1 * q.val) = r.val * 1024 + q.val; omega

/-- An element of a product. -/
theorem dotv_apply (a : FVec Ideal S512x512 .f32) (b : Vec Ideal S512x1024 .f32) (p : Fin 512) (q : Fin 1024) :
    dotv a b (ix2 p q) = ∑ k : Fin 512, a (ix2 p k) * b (ix2 k q) := by
  pointwise [dotv]

/-- The clipped value, over the extended reals. -/
def clip (y : EReal) : EReal := min ((60 : ℝ) : EReal) (max ((-60 : ℝ) : EReal) y)

/-- The epilogue of one element. -/
def silu (y : EReal) : EReal := Ideal.div y (1 + Ideal.exp (-clip y))

theorem sixty : Ideal.ofBits .f32 0x42700000#32 = ((60 : ℝ) : EReal) := by
  simp [Ideal.ofBits, Ideal.ieee]
  rw [← EReal.coe_mul]; norm_num
theorem minus_sixty : Ideal.ofBits .f32 0xC2700000#32 = ((-60 : ℝ) : EReal) := by
  simp [Ideal.ofBits, Ideal.ieee]
  rw [← EReal.coe_mul]; norm_num

/-- A clipped value is a real number. -/
theorem clip_real (y : EReal) : ∃ a : ℝ, clip y = a := by
  have h1 : clip y ≤ ((60 : ℝ) : EReal) := min_le_left _ _
  have h2 : ((-60 : ℝ) : EReal) ≤ clip y := le_min (by exact_mod_cast (by norm_num : (-60 : ℝ) ≤ 60)) (le_max_left _ _)
  refine ⟨(clip y).toReal, (EReal.coe_toReal (fun h => ?_) (fun h => ?_)).symm⟩
  · rw [h] at h1; exact absurd h1 (not_le.mpr (EReal.coe_lt_top _))
  · rw [h] at h2; exact absurd h2 (not_le.mpr (EReal.bot_lt_coe _))

/-- Multiplying by the reciprocal of the denominator is dividing by it: the denominator is positive. -/
theorem silu_eq (y : EReal) : y * Ideal.div 1 (1 + Ideal.exp (0 - clip y)) = silu y := by
  unfold silu
  obtain ⟨a, ha⟩ := clip_real y
  rw [ha, zero_sub]
  have e : (1 : EReal) + Ideal.exp (-(a : EReal)) = ((1 + Real.exp (-a) : ℝ) : EReal) := by
    rw [← EReal.coe_neg, Ideal.exp_coe]; norm_cast
  have h0 : ((1 + Real.exp (-a) : ℝ) : EReal) ≠ 0 := by
    have := Real.exp_pos (-a)
    exact_mod_cast (by positivity : (1 + Real.exp (-a) : ℝ) ≠ 0)
  rw [e]
  unfold Ideal.div
  rw [if_neg h0, if_neg h0, one_mul]

/-- An element of the kernel's epilogue. -/
theorem epi_apply (y : FVec Ideal S512x1024 .f32) (j : S512x1024.Idx) : epi y j = silu (y j) := by
  rw [← silu_eq]
  pointwise [epi]
  rw [sixty, minus_sixty]; rfl

end Cert.KernelIdeal.Ring

end
-- ==== Proof.Equation.lean ====
/- The kernel's ring sums are the rows of the one product, and its result the reference's rows. -/
module

public import proofs.«01_k».proof.Proof.Values
public import proofs.«01_k».proof.Proof.Gen.ReferenceIdeal.Run

@[expose] public section

set_option maxRecDepth 10000

noncomputable section

namespace Cert.KernelIdeal.Ring

open Idealize.ShloMosaic Idealize.SL.Sem Cert.KernelIdeal.Gen
open Idealize.ShloMosaic.TcCoe
open scoped BigOperators

/-! ## Sums -/

/-- Position `k` of device `d`'s stretch of the 8192. -/
def wide (d : Fin 16) (k : Fin 512) : Fin 8192 := ⟨d.val * 512 + k.val, by omega⟩

/-- The devices' stretches are all of the 8192. -/
theorem sum_wide (f : Fin 8192 → EReal) : ∑ d : Fin 16, ∑ k : Fin 512, f (wide d k) = ∑ K : Fin 8192, f K := by
  rw [← Fintype.sum_prod_type (f := fun x : Fin 16 × Fin 512 => f (wide x.1 x.2)), ← Equiv.sum_comp (finProdFinEquiv : Fin 16 × Fin 512 ≃ Fin (16 * 512)) f]
  refine Finset.sum_congr rfl fun x _ => congrArg f (Fin.ext ?_)
  show x.1.val * 512 + x.2.val = x.2.val + 512 * x.1.val
  omega

/-- Going upstream `j` times. -/
theorem up_iterate (r : Fin 4) (c : Dev nD) (j : ℕ) :
    (up r)^[j] c = (cond (leftward r) ((c : Fin 16) + Fin.ofNat 16 j) ((c : Fin 16) - Fin.ofNat 16 j) : Fin 16) := by
  have e : ∀ c : Dev nD, up r c = (cond (leftward r) ((c : Fin 16) + 1) ((c : Fin 16) - 1) : Fin 16) := fun c => by
    rw [up_eq, rgt_eq, lft_eq]
  have o : ∀ j : ℕ, (Fin.ofNat 16 (j + 1) : Fin 16) = Fin.ofNat 16 j + 1 := fun j => Fin.ext (by simp [Fin.ofNat, Fin.val_add])
  induction j generalizing c with
  | zero => cases leftward r <;> simp [Fin.ofNat]
  | succ j ih =>
    rw [Function.iterate_succ_apply, ih, e, o]
    generalize (Fin.ofNat 16 j : Fin 16) = t
    cases leftward r
    · exact (by decide : ∀ a t : Fin 16, (a - 1) - t = a - (t + 1)) c t
    · exact (by decide : ∀ a t : Fin 16, (a + 1) + t = a + (t + 1)) c t

/-- Sixteen steps upstream meet every device once. -/
theorem sum_up (r : Fin 4) (c : Dev nD) (g : Dev nD → EReal) : ∑ j ∈ Finset.range 16, g ((up r)^[j] c) = ∑ d : Dev nD, g d := by
  rw [Finset.sum_range]
  have h : Function.Bijective fun j : Fin 16 => (up r)^[j.val] c := by
    refine (Finite.injective_iff_bijective (α := Fin 16)).mp fun i j hij => ?_
    replace hij : (up r)^[i.val] c = (up r)^[j.val] c := hij
    rw [up_iterate, up_iterate] at hij
    have oi : ∀ i : Fin 16, (Fin.ofNat 16 i.val : Fin 16) = i := fun i => Fin.ext (Nat.mod_eq_of_lt i.isLt)
    rw [oi, oi] at hij
    cases e : leftward r <;> rw [e] at hij
    · exact (sub_right_injective (b := (c : Fin 16))) hij
    · exact (add_right_injective (c : Fin 16)) hij
  exact Function.Bijective.sum_comp h g

/-! ## The kernel's sums -/

variable (m : (ℓ : Loc nD τ sig) → Buf (Elt Ideal) ℓ)
variable (X : FVec Ideal ⟨2, ![8192, 8192]⟩ .f32) (W : FVec Ideal ⟨2, ![8192, 4096]⟩ .f32)

/-- A device's part of an element of the product. -/
def portion (d : Fin 16) (R : Fin 8192) (C : Fin 4096) : EReal := ∑ k : Fin 512, X (ix2 R (wide d k)) * W (ix2 (wide d k) C)

/-- The devices' parts make up the element of the product. -/
theorem sum_portion (R : Fin 8192) (C : Fin 4096) : ∑ d : Fin 16, portion X W d R C = ∑ K : Fin 8192, X (ix2 R K) * W (ix2 K C) :=
  sum_wide fun K => X (ix2 R K) * W (ix2 K C)

/-- The devices hold the blocks of `X` by columns and of `W` by rows. -/
def Held : Prop := ∀ c : Dev nD,
  m ((c : Thread nD τ).loc main_arg0) = Layout.block ⟨2, ![8192, 512]⟩ ⟨2, ![8192, 8192]⟩ 1 16 c X
    ∧ m ((c : Thread nD τ).loc main_arg1) = Layout.block ⟨2, ![512, 4096]⟩ ⟨2, ![8192, 4096]⟩ 0 16 c W

variable {m X W} (H : Held m X W)
include H

theorem x_held (c : Dev nD) (R : Fin 8192) (k : Fin 512) : m ((c : Thread nD τ).loc main_arg0) (ix2 R k) = X (ix2 R (wide c k)) := by
  rw [(H c).1, Layout.block_apply]
  refine congrArg X (funext fun a => Fin.ext ?_)
  match a with
  | ⟨0, _⟩ => rfl
  | ⟨1, _⟩ => rfl

theorem w_held (c : Dev nD) (k : Fin 512) (C : Fin 4096) : m ((c : Thread nD τ).loc main_arg1) (ix2 k C) = W (ix2 (wide c k) C) := by
  rw [(H c).2, Layout.block_apply]
  refine congrArg W (funext fun a => Fin.ext ?_)
  match a with
  | ⟨0, _⟩ => rfl
  | ⟨1, _⟩ => rfl

/-- A device's own product at a step is its part of a row block of the whole product. -/
theorem term_apply (c : Dev nD) (r : Fin 4) (s : ℕ) (p : Fin 512) (q : Fin 1024) :
    term m c r s (ix2 p q) = portion X W c (wide (chunk (row r) c (Fin.ofNat 16 s)) p) (colOf r q) := by
  unfold term portion
  rw [dotv_apply]
  refine Finset.sum_congr rfl fun k _ => ?_
  rw [xv_apply, wcol_apply, w_held H, ← x_held H]
  rfl

/-- The partial sum at a step: the parts of the devices upstream, of one row block. -/
theorem acc_apply (r : Fin 4) (s : ℕ) (c : Dev nD) (p : Fin 512) (q : Fin 1024) :
    acc m r s c (ix2 p q)
      = ∑ j ∈ Finset.range (s + 1), portion X W ((up r)^[j] c) (wide (chunk (row r) c (Fin.ofNat 16 s)) p) (colOf r q) := by
  induction s generalizing c with
  | zero => rw [Finset.sum_range_one]; exact term_apply H c r 0 p q
  | succ s ih =>
    have o : (Fin.ofNat 16 (s + 1) : Fin 16) = Fin.ofNat 16 s + 1 := Fin.ext (by simp [Fin.ofNat, Fin.val_add])
    rw [Finset.sum_range_succ']
    show acc m r s (up r c) (ix2 p q) + term m c r (s + 1) (ix2 p q) = _
    rw [ih, term_apply H, chunk_up, o]
    rfl

/-- After the last step a device has its own row block of the whole product. -/
theorem acc_last (r : Fin 4) (c : Dev nD) (p : Fin 512) (q : Fin 1024) :
    acc m r 15 c (ix2 p q) = ∑ K : Fin 8192, X (ix2 (wide c p) K) * W (ix2 K (colOf r q)) := by
  rw [acc_apply H, sum_up r c fun d => portion X W d _ (colOf r q)]
  refine Eq.trans ?_ (sum_portion X W (wide c p) (colOf r q))
  rw [show (Fin.ofNat 16 15 : Fin 16) = 15 from rfl, chunk_last]

/-- A ring's result columns are the epilogue of its columns of the product. -/
theorem res_apply (c : Dev nD) (r : Fin 4) (p : Fin 512) (q : Fin 1024) :
    res m c r (ix2 p q) = silu (∑ K : Fin 8192, X (ix2 (wide c p) K) * W (ix2 K (colOf r q))) := by
  unfold res
  rw [epi_apply, acc_last H]

omit H in
/-- A result whose rings' columns are read is read at every element. -/
theorem out_elem (c : Dev nD) (f : Buf (Elt Ideal) ((c : Thread nD τ).loc main_v1))
    (h : ∀ r : Fin 4, (outM O2 r).view.read (Elt Ideal) f = res m c r) (p : Fin 512) (r : Fin 4) (q : Fin 1024) :
    f (ix2 p (colOf r q)) = res m c r (ix2 p q) := by
  rw [← h r]
  refine congrArg f (a₂ := (outM O2 r).view.emb (ix2 p q)) (funext fun a => Fin.ext ?_)
  match a with
  | ⟨0, _⟩ => show p.val = 0 + 1 * p.val; omega
  | ⟨1, _⟩ => show r.val * 1024 + q.val = r.val * 1024 + 1 * q.val; omega

end Cert.KernelIdeal.Ring

namespace Cert.ReferenceIdeal.Value

open Idealize.ShloMosaic Idealize.SL.Sem Cert.ReferenceIdeal Cert.ReferenceIdeal.Gen
open Cert.KernelIdeal.Ring (silu clip sixty minus_sixty)
open scoped BigOperators

/-- The reference's result. -/
def out (X : FVec Ideal S8192x8192 .f32) (W : FVec Ideal S8192x4096 .f32) : FVec Ideal S8192x4096 .f32 :=
  Host.divf (Host.dotGeneral dot_S8192x8192_S8192x4096_S8192x4096_1_0_0_1_n_n none X W)
    (addf (broadcastInDim S8192x4096 ![] bcast_S_S8192x4096 (constant S_ .f32 0x3F800000#32))
      (Host.exp (Host.negf (minimumf (broadcastInDim S8192x4096 ![] bcast_S_S8192x4096 (id (constant S_ .f32 0x42700000#32)))
        (maximumf (broadcastInDim S8192x4096 ![] bcast_S_S8192x4096 (id (constant S_ .f32 0xC2700000#32)))
          (Host.dotGeneral dot_S8192x8192_S8192x4096_S8192x4096_1_0_0_1_n_n none X W))))))

/-- An element of the reference's result: the epilogue of an element of the product. -/
theorem out_apply (X : FVec Ideal S8192x8192 .f32) (W : FVec Ideal S8192x4096 .f32) (R : Fin 8192) (C : Fin 4096) :
    out X W (ix2 R C) = silu (∑ K : Fin 8192, X (ix2 R K) * W (ix2 K C)) := by
  pointwise [out]
  show Ideal.div _ (1 + Ideal.exp (-min (Ideal.ofBits .f32 0x42700000#32) (max (Ideal.ofBits .f32 0xC2700000#32) _))) = _
  rw [sixty, minus_sixty]; rfl

end Cert.ReferenceIdeal.Value

end
-- ==== Proof.Algebra.lean ====
/- The value claim: the kernel's result is the reference's, block by block. -/
module

public import proofs.«01_k».proof.Defs
public import proofs.«01_k».proof.Proof.Launch
public import proofs.«01_k».proof.Proof.Equation

@[expose] public section

set_option maxRecDepth 10000

noncomputable section

namespace Cert.Proof

open Idealize.ShloMosaic Idealize.SL.Sem
open Cert.KernelIdeal.Ring (QY run_main Held colOf wide res_apply out_elem)

/-- Where an element of device `c`'s block of the result is in the whole result. -/
theorem block_elem (c : Dev Cert.KernelIdeal.nD) (v : FVec Ideal ⟨2, ![8192, 4096]⟩ .f32) (p : Fin 512) (C : Fin 4096) :
    Layout.block ⟨2, ![512, 4096]⟩ ⟨2, ![8192, 4096]⟩ 0 16 c v (by decide) (ix2 p C) = v (ix2 (wide c p) C) := by
  rw [Layout.block_apply]
  refine congrArg v (funext fun a => Fin.ext ?_)
  match a with
  | ⟨0, _⟩ => rfl
  | ⟨1, _⟩ => rfl

/-- A column lies in one ring's columns. -/
theorem exists_col (C : Fin 4096) : ∃ (r : Fin 4) (q : Fin 1024), C = colOf r q :=
  ⟨⟨C.val / 1024, by omega⟩, ⟨C.val % 1024, Nat.mod_lt _ (by omega)⟩, Fin.ext (by show C.val = C.val / 1024 * 1024 + C.val % 1024; omega)⟩

/-- From arguments that are the blocks of the reference's, every device of the kernel ends with its block of the reference's
    result; both programs leave their arguments unchanged. -/
theorem algebraic : Cert.algebraic_KernelIdeal_ReferenceIdeal := by
  intro m g m' g' _ hag
  refine ⟨Cert.ReferenceIdeal.Value.out (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ?_) (run_main (F := Ideal) m g)
    obtain ⟨⟨ho, h0, -⟩, h1⟩ := h.1 c
    refine ⟨funext fun j => ?_, h0, h1⟩
    obtain ⟨p, C, rfl⟩ : ∃ (p : Fin 512) (C : Fin 4096), j = ix2 p C := ⟨j 0, j 1, eq_ix2 j⟩
    obtain ⟨r, q, rfl⟩ := exists_col C
    exact (out_elem c _ ho p r q).trans ((res_apply (H := hag) c r p q).trans
      ((block_elem c _ p (colOf r q)).trans (Cert.ReferenceIdeal.Value.out_apply _ _ _ _)).symm)
  · exact (θ_run Cert.ReferenceIdeal.defs _ _).mono (fun r h => ⟨(h 0).1, (h 0).2.1, (h 0).2.2⟩) (Cert.ReferenceIdeal.Value.run (F := Ideal) m' g')

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- All claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
